-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x216x128 : Shape := ⟨4, ![2, 1024, 216, 128]⟩
abbrev S1 : Shape := ⟨1, ![1]⟩
abbrev S27x32x64 : Shape := ⟨3, ![27, 32, 64]⟩
abbrev S27x64 : Shape := ⟨2, ![27, 64]⟩
abbrev S64 : Shape := ⟨1, ![64]⟩
abbrev S64x1 : Shape := ⟨2, ![64, 1]⟩
abbrev S8x64x131072 : Shape := ⟨3, ![8, 64, 131072]⟩
abbrev S1x16x216x128 : Shape := ⟨4, ![1, 16, 216, 128]⟩
abbrev S1x64x2048 : Shape := ⟨3, ![1, 64, 2048]⟩
abbrev S64x864 : Shape := ⟨2, ![64, 864]⟩
abbrev S27x1x64 : Shape := ⟨3, ![27, 1, 64]⟩
abbrev S864x64 : Shape := ⟨2, ![864, 64]⟩
abbrev S1x1x216x128 : Shape := ⟨4, ![1, 1, 216, 128]⟩
abbrev S216x128 : Shape := ⟨2, ![216, 128]⟩
abbrev S864x128 : Shape := ⟨2, ![864, 128]⟩
abbrev S864x256 : Shape := ⟨2, ![864, 256]⟩
abbrev S64x256 : Shape := ⟨2, ![64, 256]⟩
abbrev S1x64x256 : Shape := ⟨3, ![1, 64, 256]⟩
abbrev S8x131072x64 : Shape := ⟨3, ![8, 131072, 64]⟩

abbrev nBuf : Space → Nat
  | .hbm => 17
  | .vmem => 32
  | .smem => 4
  | _ => 0

abbrev bufTy : (tb : Table) → Fin (tcTables nBuf tb) → BufTy
  | .hbm, ⟨0, _⟩ => ⟨S2x1024x216x128, .i32⟩
  | .hbm, ⟨1, _⟩ => ⟨S2x1024x216x128, .i32⟩
  | .hbm, ⟨2, _⟩ => ⟨S2x1024x216x128, .i32⟩
  | .hbm, ⟨3, _⟩ => ⟨S2x1024x216x128, .i32⟩
  | .hbm, ⟨4, _⟩ => ⟨S1, .f32⟩
  | .hbm, ⟨5, _⟩ => ⟨S27x32x64, .fp8e4m3⟩
  | .hbm, ⟨6, _⟩ => ⟨S27x64, .f32⟩
  | .hbm, ⟨7, _⟩ => ⟨S64, .f32⟩
  | .hbm, ⟨8, _⟩ => ⟨S64x1, .f32⟩
  | .hbm, ⟨9, _⟩ => ⟨S8x64x131072, .f32⟩
  | .hbm, ⟨10, _⟩ => ⟨S64x1, .f32⟩
  | .hbm, ⟨11, _⟩ => ⟨S8x64x131072, .f32⟩
  | .hbm, ⟨12, _⟩ => ⟨S64x1, .f32⟩
  | .hbm, ⟨13, _⟩ => ⟨S8x64x131072, .f32⟩
  | .hbm, ⟨14, _⟩ => ⟨S64x1, .f32⟩
  | .hbm, ⟨15, _⟩ => ⟨S8x64x131072, .f32⟩
  | .hbm, ⟨16, _⟩ => ⟨S8x131072x64, .f32⟩
  | .local _ .vmem, ⟨0, _⟩ => ⟨S1x16x216x128, .i32⟩
  | .local _ .vmem, ⟨1, _⟩ => ⟨S1x16x216x128, .i32⟩
  | .local _ .vmem, ⟨2, _⟩ => ⟨S27x32x64, .fp8e4m3⟩
  | .local _ .vmem, ⟨3, _⟩ => ⟨S27x64, .f32⟩
  | .local _ .vmem, ⟨4, _⟩ => ⟨S64x1, .f32⟩
  | .local _ .vmem, ⟨5, _⟩ => ⟨S1x64x2048, .f32⟩
  | .local _ .vmem, ⟨6, _⟩ => ⟨S1x64x2048, .f32⟩
  | .local _ .vmem, ⟨7, _⟩ => ⟨S64x864, .bf16⟩
  | .local _ .vmem, ⟨8, _⟩ => ⟨S1x16x216x128, .i32⟩
  | .local _ .vmem, ⟨9, _⟩ => ⟨S1x16x216x128, .i32⟩
  | .local _ .vmem, ⟨10, _⟩ => ⟨S27x32x64, .fp8e4m3⟩
  | .local _ .vmem, ⟨11, _⟩ => ⟨S27x64, .f32⟩
  | .local _ .vmem, ⟨12, _⟩ => ⟨S64x1, .f32⟩
  | .local _ .vmem, ⟨13, _⟩ => ⟨S1x64x2048, .f32⟩
  | .local _ .vmem, ⟨14, _⟩ => ⟨S1x64x2048, .f32⟩
  | .local _ .vmem, ⟨15, _⟩ => ⟨S64x864, .bf16⟩
  | .local _ .vmem, ⟨16, _⟩ => ⟨S1x16x216x128, .i32⟩
  | .local _ .vmem, ⟨17, _⟩ => ⟨S1x16x216x128, .i32⟩
  | .local _ .vmem, ⟨18, _⟩ => ⟨S27x32x64, .fp8e4m3⟩
  | .local _ .vmem, ⟨19, _⟩ => ⟨S27x64, .f32⟩
  | .local _ .vmem, ⟨20, _⟩ => ⟨S64x1, .f32⟩
  | .local _ .vmem, ⟨21, _⟩ => ⟨S1x64x2048, .f32⟩
  | .local _ .vmem, ⟨22, _⟩ => ⟨S1x64x2048, .f32⟩
  | .local _ .vmem, ⟨23, _⟩ => ⟨S64x864, .bf16⟩
  | .local _ .vmem, ⟨24, _⟩ => ⟨S1x16x216x128, .i32⟩
  | .local _ .vmem, ⟨25, _⟩ => ⟨S1x16x216x128, .i32⟩
  | .local _ .vmem, ⟨26, _⟩ => ⟨S27x32x64, .fp8e4m3⟩
  | .local _ .vmem, ⟨27, _⟩ => ⟨S27x64, .f32⟩
  | .local _ .vmem, ⟨28, _⟩ => ⟨S64x1, .f32⟩
  | .local _ .vmem, ⟨29, _⟩ => ⟨S1x64x2048, .f32⟩
  | .local _ .vmem, ⟨30, _⟩ => ⟨S1x64x2048, .f32⟩
  | .local _ .vmem, ⟨31, _⟩ => ⟨S64x864, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S2x1024x216x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc3_scratch0 : Ref sig .tc := ⟨.vmem, 31, rfl⟩
abbrev cc0_stg3_0 : Ref sig .tc := ⟨.smem, 0, rfl⟩
abbrev cc1_stg3_0 : Ref sig .tc := ⟨.smem, 1, rfl⟩
abbrev cc2_stg3_0 : Ref sig .tc := ⟨.smem, 2, rfl⟩
abbrev cc3_stg3_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

abbrev stage0_0 : Fin 2 → Memref sig .tc .vmem S1x16x216x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S27x32x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S27x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 64], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat, arg1.toNat]

abbrev stage1_0 : Fin 2 → Memref sig .tc .vmem S1x16x216x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S27x32x64 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S27x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 64], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat, arg1.toNat]

abbrev stage2_0 : Fin 2 → Memref sig .tc .vmem S1x16x216x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S27x32x64 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S27x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x64x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![2, 64], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat, arg1.toNat]

abbrev stage3_0 : Fin 2 → Memref sig .tc .vmem S1x16x216x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S27x32x64 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S27x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .smem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x64x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S2x1024x216x128 : Shape := ⟨4, ![2, 1024, 216, 128]⟩
abbrev S1 : Shape := ⟨1, ![1]⟩
abbrev S27x32x64 : Shape := ⟨3, ![27, 32, 64]⟩
abbrev S27x64 : Shape := ⟨2, ![27, 64]⟩
abbrev S64 : Shape := ⟨1, ![64]⟩
abbrev S8x1024x216x128 : Shape := ⟨4, ![8, 1024, 216, 128]⟩
abbrev S8x1024x216x128x4 : Shape := ⟨5, ![8, 1024, 216, 128, 4]⟩
abbrev S8x1024x27x8x128x4 : Shape := ⟨6, ![8, 1024, 27, 8, 128, 4]⟩
abbrev S8x1024x128x27x8x4 : Shape := ⟨6, ![8, 1024, 128, 27, 8, 4]⟩
abbrev S8x131072x864 : Shape := ⟨3, ![8, 131072, 864]⟩
abbrev S27x1x64 : Shape := ⟨3, ![27, 1, 64]⟩
abbrev S864x64 : Shape := ⟨2, ![864, 64]⟩
abbrev S8x131072x64 : Shape := ⟨3, ![8, 131072, 64]⟩
abbrev S_ : Shape := ⟨0, ![]⟩
abbrev S1x1x64 : Shape := ⟨3, ![1, 1, 64]⟩

abbrev nBuf : Space → Nat
  | .hbm => 27
  | .vmem => 4
  | .smem => 0
  | _ => 0

abbrev bufTy : (tb : Table) → Fin (tcTables nBuf tb) → BufTy
  | .hbm, ⟨0, _⟩ => ⟨S2x1024x216x128, .i32⟩
  | .hbm, ⟨1, _⟩ => ⟨S2x1024x216x128, .i32⟩
  | .hbm, ⟨2, _⟩ => ⟨S2x1024x216x128, .i32⟩
  | .hbm, ⟨3, _⟩ => ⟨S2x1024x216x128, .i32⟩
  | .hbm, ⟨4, _⟩ => ⟨S1, .f32⟩
  | .hbm, ⟨5, _⟩ => ⟨S27x32x64, .fp8e4m3⟩
  | .hbm, ⟨6, _⟩ => ⟨S27x64, .f32⟩
  | .hbm, ⟨7, _⟩ => ⟨S64, .f32⟩
  | .hbm, ⟨8, _⟩ => ⟨S8x1024x216x128, .i32⟩
  | .hbm, ⟨9, _⟩ => ⟨S8x1024x216x128x4, .fp8e4m3⟩
  | .hbm, ⟨10, _⟩ => ⟨S8x1024x27x8x128x4, .fp8e4m3⟩
  | .hbm, ⟨11, _⟩ => ⟨S8x1024x128x27x8x4, .fp8e4m3⟩
  | .hbm, ⟨12, _⟩ => ⟨S8x131072x864, .fp8e4m3⟩
  | .hbm, ⟨13, _⟩ => ⟨S8x131072x864, .bf16⟩
  | .hbm, ⟨14, _⟩ => ⟨S27x32x64, .bf16⟩
  | .hbm, ⟨15, _⟩ => ⟨S27x1x64, .f32⟩
  | .hbm, ⟨16, _⟩ => ⟨S27x1x64, .bf16⟩
  | .hbm, ⟨17, _⟩ => ⟨S27x32x64, .bf16⟩
  | .hbm, ⟨18, _⟩ => ⟨S27x32x64, .bf16⟩
  | .hbm, ⟨19, _⟩ => ⟨S864x64, .bf16⟩
  | .hbm, ⟨20, _⟩ => ⟨S8x131072x64, .f32⟩
  | .hbm, ⟨21, _⟩ => ⟨S_, .f32⟩
  | .hbm, ⟨22, _⟩ => ⟨S8x131072x64, .f32⟩
  | .hbm, ⟨23, _⟩ => ⟨S8x131072x64, .f32⟩
  | .hbm, ⟨24, _⟩ => ⟨S1x1x64, .f32⟩
  | .hbm, ⟨25, _⟩ => ⟨S8x131072x64, .f32⟩
  | .hbm, ⟨26, _⟩ => ⟨S8x131072x64, .f32⟩
  | .local _ .vmem, ⟨0, _⟩ => ⟨S8x131072x864, .fp8e4m3⟩
  | .local _ .vmem, ⟨1, _⟩ => ⟨S27x32x64, .fp8e4m3⟩
  | .local _ .vmem, ⟨2, _⟩ => ⟨S8x131072x864, .bf16⟩
  | .local _ .vmem, ⟨3, _⟩ => ⟨S27x32x64, .bf16⟩
  | _, _ => ⟨S2x1024x216x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x131072x864 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x32x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x131072x864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Payload.lean ====
module

public import proofs.«01_k».proof.Proof.Gen.KernelIdeal.Skeleton
public import Idealize.ShloMosaic.Lib.Pipeline.Value
public import Idealize.ShloMosaic.Lib.ValueIdx
public import Idealize.ShloMosaic.Lib.BitcastFour
public import Idealize.ShloMosaic.PureOps.Ideal.Laws

@[expose] public section

noncomputable section

namespace Cert.Conv

open Cert.KernelIdeal Cert.KernelIdeal.Gen Idealize.ShloMosaic Idealize.ShloMosaic.ValueIdx

/-- The value of byte `b` of a 32-bit word read as an fp8 (e4m3) code; byte 0 is the lowest. -/
def byteVal (x : BitVec 32) (b : ℕ) : EReal := Ideal.ofBits .fp8e4m3 (x.extractLsb' (8 * b) 8)

/-- Row `q` of the 864 rows (27 offsets of 32 input channels), column `o`, of the weights times their scales. -/
def wEff (w : S27x32x64.Idx → EReal) (ws : S27x64.Idx → EReal) (q : Fin 864) (o : Fin 64) : EReal :=
  w (ix3 (⟨q.val / 32, by omega⟩ : Fin 27) (⟨q.val % 32, by omega⟩ : Fin 32) o) * ws (ix2 (⟨q.val / 32, by omega⟩ : Fin 27) o)

/-- Input channel `q` (of 864) of a column of 216 words: byte `q % 4` of word `q / 4`. -/
def chan (col : Fin 216 → BitVec 32) (q : Fin 864) : EReal := byteVal (col ⟨q.val / 4, by omega⟩) (q.val % 4)

/-- The product of two 864-vectors, scaled and shifted. -/
def affineDot (u v : Fin 864 → EReal) (xs b : EReal) : EReal := (∑ q : Fin 864, u q * v q) * xs + b

/-- A block of words read as bytes, one below the other: row `q` is byte `q % 4` of word row `q / 4`. -/
theorem bytes_apply (x : S216x128.Idx → BitVec 32) (q : Fin 864) (l : Fin 128) :
    bitcastToFloat (F := Ideal) .fp8e4m3 (bitcast S864x128 8 x bitcasts_S216x128_w32_S864x128_w8) (ix2 q l)
      = byteVal (x (ix2 (⟨q.val / 4, by omega⟩ : Fin 216) l)) (q.val % 4) := by
  show Ideal.ofBits .fp8e4m3 _ = Ideal.ofBits .fp8e4m3 _
  congr 1
  apply BitVec.eq_of_getLsbD_eq
  intro i hi
  rw [bitcast_getLsbD x _ _ i hi (by decide), BitVec.getLsbD_extractLsb']
  have hrow : S864x128.row (ix2 q l) = q.val := rfl
  have ep : (S864x128.row (ix2 q l) * 8 + i) / 32 = q.val / 4 := by rw [hrow]; omega
  have eq : (S864x128.row (ix2 q l) * 8 + i) % 32 = 8 * (q.val % 4) + i := by rw [hrow]; omega
  rw [eq]
  simp only [hi, decide_true, Bool.true_and]
  congr 2
  funext c
  match c with
  | ⟨0, _⟩ => exact Fin.ext ((Shape.Bitcasts.srcIdx_row _ _ _ _ ⟨0, Nat.zero_lt_two⟩ rfl).trans ep)
  | ⟨1, _⟩ => exact Fin.ext (Shape.Bitcasts.srcIdx_other _ _ _ _ ⟨1, Nat.one_lt_two⟩ (by show ¬ 1 + 2 = 2; omega))

/-- The scratch's contents: entry (`o`, `q`) is row `q`, column `o` of the scaled weights. -/
theorem weights_apply (w : Vec Ideal S27x32x64 .fp8e4m3) (ws : Vec Ideal S27x64 .f32) (o : Fin 64) (q : Fin 864) :
    k0_pay2 (F := Ideal) w ws (ix2 o q) = wEff w ws q o := by
  unfold k0_pay2
  dsimp only
  rw [shapeCast_apply _ _ _ (ix2 o q) rfl, transpose_apply _ _ _ _ (ix2 q o) (fun b => match b with | ⟨0, _⟩ => rfl | ⟨1, _⟩ => rfl),
    shapeCast_apply _ _ _ (ix3 (⟨q.val / 32, by omega⟩ : Fin 27) (⟨q.val % 32, by omega⟩ : Fin 32) o)
      (by rw [Shape.rowMajor_val_three, Shape.rowMajor_val_two]; show (q.val / 32 * 32 + q.val % 32) * 64 + o.val = q.val * 64 + o.val; omega)]
  show w _ * broadcastTo S27x32x64 _ _ _ = _
  rw [broadcastTo_apply _ _ _ (ix3 (⟨q.val / 32, by omega⟩ : Fin 27) (0 : Fin 1) o)
      (fun a => match a with | ⟨0, _⟩ => rfl | ⟨1, _⟩ => rfl | ⟨2, _⟩ => rfl),
    shapeCast_apply _ _ _ (ix2 (⟨q.val / 32, by omega⟩ : Fin 27) o)
      (by rw [Shape.rowMajor_val_three, Shape.rowMajor_val_two]; show q.val / 32 * 64 + o.val = (q.val / 32 * 1 + 0) * 64 + o.val; omega)]
  rfl

/-- One stored pair of chunks: at channel `o`, lane `l` the product of row `o` of the scratch with the bytes of that lane's
    words (of the first chunk below lane 128, of the second from there), times the scale, plus the bias. -/
theorem pair_apply (a b : Vec Ideal S1x1x216x128 .i32) (wt : Vec Ideal S64x864 .bf16) (xs : Elt Ideal .f32)
    (bias : Vec Ideal S64x1 .f32) (o : Fin 64) (l : Fin 256) :
    k0_pay3 (F := Ideal) a b wt xs bias (ix3 (0 : Fin 1) o l)
      = affineDot (fun q => wt (ix2 o q)) (chan fun r => if h : l.val < 128
          then a (ix4 (0 : Fin 1) (0 : Fin 1) r (⟨l.val, h⟩ : Fin 128))
          else b (ix4 (0 : Fin 1) (0 : Fin 1) r (⟨l.val - 128, by omega⟩ : Fin 128))) xs (bias (ix2 o (0 : Fin 1))) := by
  unfold k0_pay3
  rw [shapeCast_apply _ _ _ (ix2 o l)
      (by rw [Shape.rowMajor_val_three, Shape.rowMajor_val_two]; show o.val * 256 + l.val = (0 * 64 + o.val) * 256 + l.val; omega)]
  show FloatOps.matmul (F := Ideal) _ _ _ _ _ (ix2 o l) * xs + broadcastTo S64x256 _ _ (ix2 o l) = _
  rw [broadcastTo_apply _ _ _ (ix2 o (0 : Fin 1)) (fun a => match a with | ⟨0, _⟩ => rfl | ⟨1, _⟩ => rfl),
    shapeCast_apply _ _ _ (ix2 o (0 : Fin 1)) rfl, Ideal.matmul_constant_zero_apply]
  unfold affineDot
  congr 2
  rw [← Equiv.sum_comp (ValueIdx.contrEquiv1 dot_S64x864_S864x256_S64x256_1_0_0_1_n_n 864 rfl rfl).symm]
  refine Finset.sum_congr rfl fun q _ => ?_
  have hk := ValueIdx.contrEquiv1_symm_val dot_S64x864_S864x256_S64x256_1_0_0_1_n_n 864 rfl rfl q
  have el : dot_S64x864_S864x256_S64x256_1_0_0_1_n_n.lhsIdx (ix2 o l) ((ValueIdx.contrEquiv1 dot_S64x864_S864x256_S64x256_1_0_0_1_n_n 864 rfl rfl).symm q) = ix2 o q :=
    funext fun a => Fin.ext (match a with | ⟨0, _⟩ => rfl | ⟨1, _⟩ => hk)
  have er : dot_S64x864_S864x256_S64x256_1_0_0_1_n_n.rhsIdx (ix2 o l) ((ValueIdx.contrEquiv1 dot_S64x864_S864x256_S64x256_1_0_0_1_n_n 864 rfl rfl).symm q) = ix2 q l :=
    funext fun a => Fin.ext (match a with | ⟨0, _⟩ => hk | ⟨1, _⟩ => rfl)
  rw [el, er]
  congr 1
  unfold chan
  by_cases h : l.val < 128
  · refine (concatenate_pair_apply_left (t := S864x256) (s₁ := S864x128) (s₂ := S864x128) 1 _ _ _ (ix2 q l) rfl
      (ix2 q (⟨l.val, h⟩ : Fin 128)) (fun a => match a with | ⟨0, _⟩ => rfl | ⟨1, _⟩ => rfl)).trans ?_
    rw [bytes_apply, shapeCast_apply _ _ _ (ix4 (0 : Fin 1) (0 : Fin 1) (⟨q.val / 4, by omega⟩ : Fin 216) (⟨l.val, h⟩ : Fin 128))
        (by rw [Shape.rowMajor_val_four, Shape.rowMajor_val_two]; show ((0 * 1 + 0) * 216 + q.val / 4) * 128 + l.val = q.val / 4 * 128 + l.val; omega)]
    simp only [dif_pos h]
  · refine (concatenate_pair_apply_right (t := S864x256) (s₁ := S864x128) (s₂ := S864x128) 1 _ _ _ (ix2 q l) rfl rfl
      (ix2 q (⟨l.val - 128, by omega⟩ : Fin 128))
      (fun a => match a with | ⟨0, _⟩ => fun _ => rfl | ⟨1, _⟩ => fun h => absurd rfl h)
      (by show l.val - 128 + 128 = l.val; omega)).trans ?_
    rw [bytes_apply, shapeCast_apply _ _ _ (ix4 (0 : Fin 1) (0 : Fin 1) (⟨q.val / 4, by omega⟩ : Fin 216) (⟨l.val - 128, by omega⟩ : Fin 128))
        (by rw [Shape.rowMajor_val_four, Shape.rowMajor_val_two]; show ((0 * 1 + 0) * 216 + q.val / 4) * 128 + (l.val - 128) = q.val / 4 * 128 + (l.val - 128); omega)]
    simp only [dif_neg h]

end Cert.Conv
-- ==== Proof.Block.lean ====
module

public import proofs.«01_k».proof.Proof.Payload
public import Idealize.ShloMosaic.Lib.Pipeline.ValueKit.Tiles
public import Idealize.ShloMosaic.Lib.Ring
public import Idealize.ShloMosaic.Lib.Tactic

@[expose] public section

set_option maxRecDepth 16384

noncomputable section

namespace Cert.Conv

open Cert.KernelIdeal Cert.KernelIdeal.Gen Idealize.ShloMosaic Idealize.ShloMosaic.ValueIdx Idealize.ShloMosaic.TcCoe
open Idealize.ShloMosaic.Tactic

variable {F : FTy → Type} [FloatOps F]

/-- The eight stores of one grid point, last first: store `p` covers lanes `256 p` to `256 p + 255` of the block with the
    product of the weights `wt` and chunks `2 p`, `2 p + 1` of the words `x0`. -/
def stores (x0 : Vec F S1x16x216x128 .i32) (x3 : Vec F S1 .f32) (x4 : Vec F S64x1 .f32) (wt : Vec F S64x864 .bf16) :
    List (View.Piece (Elt F) S1x64x2048 .f32) :=
  [ ⟨Rect.unit ![0, 0, 1792] ![1, 64, 256] inb_S1x64x2048_S1x64x256_0_0_1792,
      k0_pay3 (View.ld x0 (Rect.unit ![0, 14, 0, 0] ![1, 1, 216, 128] inb_S1x16x216x128_S1x1x216x128_0_14_0_0))
        (View.ld x0 (Rect.unit ![0, 15, 0, 0] ![1, 1, 216, 128] inb_S1x16x216x128_S1x1x216x128_0_15_0_0)) wt (x3 (ix1 0)) x4⟩,
    ⟨Rect.unit ![0, 0, 1536] ![1, 64, 256] inb_S1x64x2048_S1x64x256_0_0_1536,
      k0_pay3 (View.ld x0 (Rect.unit ![0, 12, 0, 0] ![1, 1, 216, 128] inb_S1x16x216x128_S1x1x216x128_0_12_0_0))
        (View.ld x0 (Rect.unit ![0, 13, 0, 0] ![1, 1, 216, 128] inb_S1x16x216x128_S1x1x216x128_0_13_0_0)) wt (x3 (ix1 0)) x4⟩,
    ⟨Rect.unit ![0, 0, 1280] ![1, 64, 256] inb_S1x64x2048_S1x64x256_0_0_1280,
      k0_pay3 (View.ld x0 (Rect.unit ![0, 10, 0, 0] ![1, 1, 216, 128] inb_S1x16x216x128_S1x1x216x128_0_10_0_0))
        (View.ld x0 (Rect.unit ![0, 11, 0, 0] ![1, 1, 216, 128] inb_S1x16x216x128_S1x1x216x128_0_11_0_0)) wt (x3 (ix1 0)) x4⟩,
    ⟨Rect.unit ![0, 0, 1024] ![1, 64, 256] inb_S1x64x2048_S1x64x256_0_0_1024,
      k0_pay3 (View.ld x0 (Rect.unit ![0, 8, 0, 0] ![1, 1, 216, 128] inb_S1x16x216x128_S1x1x216x128_0_8_0_0))
        (View.ld x0 (Rect.unit ![0, 9, 0, 0] ![1, 1, 216, 128] inb_S1x16x216x128_S1x1x216x128_0_9_0_0)) wt (x3 (ix1 0)) x4⟩,
    ⟨Rect.unit ![0, 0, 768] ![1, 64, 256] inb_S1x64x2048_S1x64x256_0_0_768,
      k0_pay3 (View.ld x0 (Rect.unit ![0, 6, 0, 0] ![1, 1, 216, 128] inb_S1x16x216x128_S1x1x216x128_0_6_0_0))
        (View.ld x0 (Rect.unit ![0, 7, 0, 0] ![1, 1, 216, 128] inb_S1x16x216x128_S1x1x216x128_0_7_0_0)) wt (x3 (ix1 0)) x4⟩,
    ⟨Rect.unit ![0, 0, 512] ![1, 64, 256] inb_S1x64x2048_S1x64x256_0_0_512,
      k0_pay3 (View.ld x0 (Rect.unit ![0, 4, 0, 0] ![1, 1, 216, 128] inb_S1x16x216x128_S1x1x216x128_0_4_0_0))
        (View.ld x0 (Rect.unit ![0, 5, 0, 0] ![1, 1, 216, 128] inb_S1x16x216x128_S1x1x216x128_0_5_0_0)) wt (x3 (ix1 0)) x4⟩,
    ⟨Rect.unit ![0, 0, 256] ![1, 64, 256] inb_S1x64x2048_S1x64x256_0_0_256,
      k0_pay3 (View.ld x0 (Rect.unit ![0, 2, 0, 0] ![1, 1, 216, 128] inb_S1x16x216x128_S1x1x216x128_0_2_0_0))
        (View.ld x0 (Rect.unit ![0, 3, 0, 0] ![1, 1, 216, 128] inb_S1x16x216x128_S1x1x216x128_0_3_0_0)) wt (x3 (ix1 0)) x4⟩,
    ⟨Rect.unit ![0, 0, 0] ![1, 64, 256] inb_S1x64x2048_S1x64x256_0_0_0,
      k0_pay3 (View.ld x0 (Rect.unit ![0, 0, 0, 0] ![1, 1, 216, 128] inb_S1x16x216x128_S1x1x216x128_0_0_0_0))
        (View.ld x0 (Rect.unit ![0, 1, 0, 0] ![1, 1, 216, 128] inb_S1x16x216x128_S1x1x216x128_0_1_0_0)) wt (x3 (ix1 0)) x4⟩ ]

/-- What those stores leave in the block. -/
def outBlk (x0 : Vec F S1x16x216x128 .i32) (x3 : Vec F S1 .f32) (x4 : Vec F S64x1 .f32) (wt : Vec F S64x864 .bf16) :
    Vec F S1x64x2048 .f32 := View.canon (stores x0 x3 x4 wt)

/-- The stores cover the block. -/
theorem stores_cover (x0 : Vec F S1x16x216x128 .i32) (x3 : Vec F S1 .f32) (x4 : Vec F S64x1 .f32) (wt : Vec F S64x864 .bf16)
    (y : S1x64x2048.Idx) : ∃ pc ∈ stores x0 x3 x4 wt, y ∈ pc.1.set :=
  View.cover_of_tiledL (stores x0 x3 x4 wt) S1x64x256.size (by sl_kernel_rfl) y

/-- The chunk `k` (of 16) a point's words hold, read by one load of it. -/
theorem ld_chunk (x0 : Vec F S1x16x216x128 .i32) (k : Fin 16) (inb : ∀ a, ![0, k.val, 0, 0] a + S1x1x216x128.size a ≤ S1x16x216x128.size a)
    (r : Fin 216) (l : Fin 128) :
    View.ld x0 (Rect.unit ![0, k.val, 0, 0] S1x1x216x128.size inb) (ix4 (0 : Fin 1) (0 : Fin 1) r l) = x0 (ix4 (0 : Fin 1) k r l) :=
  View.ld_unit_apply_of _ _ _ _ _ _ fun a => match a with
    | ⟨0, _⟩ => rfl
    | ⟨1, _⟩ => rfl
    | ⟨2, _⟩ => by show r.val = 0 + r.val; omega
    | ⟨3, _⟩ => by show l.val = 0 + l.val; omega

/-- The block as one function: channel `o` at lane `l` is the product of row `o` of the weights with the bytes of lane
    `l % 128` of chunk `l / 128`, times the scale, plus the channel's bias. -/
def blkAt (x0 : Vec Ideal S1x16x216x128 .i32) (x3 : Vec Ideal S1 .f32) (x4 : Vec Ideal S64x1 .f32) (wt : Vec Ideal S64x864 .bf16)
    (y : S1x64x2048.Idx) : EReal :=
  affineDot (fun q => wt (ix2 (n0 := 64) (y 1) q))
    (chan fun r => x0 (ix4 (0 : Fin 1) (⟨(y 2).val / 128, Nat.div_lt_of_lt_mul (y 2).isLt⟩ : Fin 16) r (⟨(y 2).val % 128, Nat.mod_lt _ (by decide)⟩ : Fin 128)))
    (x3 (ix1 0)) (x4 (ix2 (n0 := 64) (y 1) (0 : Fin 1)))

/-- Store `p` at its own index is that function at the index of the block under it. -/
theorem store_apply (x0 : Vec Ideal S1x16x216x128 .i32) (x3 : Vec Ideal S1 .f32) (x4 : Vec Ideal S64x1 .f32) (wt : Vec Ideal S64x864 .bf16)
    (p : Fin 8) (inb : ∀ a, ![0, 0, 256 * p.val] a + S1x64x256.size a ≤ S1x64x2048.size a)
    (ia : ∀ a, ![0, (⟨2 * p.val, by omega⟩ : Fin 16).val, 0, 0] a + S1x1x216x128.size a ≤ S1x16x216x128.size a)
    (ib : ∀ a, ![0, (⟨2 * p.val + 1, by omega⟩ : Fin 16).val, 0, 0] a + S1x1x216x128.size a ≤ S1x16x216x128.size a)
    (x : S1x64x256.Idx) :
    k0_pay3 (F := Ideal) (View.ld x0 (Rect.unit ![0, (⟨2 * p.val, by omega⟩ : Fin 16).val, 0, 0] S1x1x216x128.size ia))
        (View.ld x0 (Rect.unit ![0, (⟨2 * p.val + 1, by omega⟩ : Fin 16).val, 0, 0] S1x1x216x128.size ib)) wt (x3 (ix1 0)) x4 x
      = blkAt x0 x3 x4 wt ((Rect.unit (s := S1x64x2048) ![0, 0, 256 * p.val] S1x64x256.size inb).emb x) := by
  obtain ⟨z, o, l, rfl⟩ : ∃ (z : Fin 1) (o : Fin 64) (l : Fin 256), x = ix3 z o l := ⟨x 0, x 1, x 2, eq_ix3 x⟩
  obtain rfl : z = 0 := Subsingleton.elim _ _
  have e1 : ((Rect.unit (s := S1x64x2048) ![0, 0, 256 * p.val] S1x64x256.size inb).emb (ix3 (0 : Fin 1) o l)) 1 = o :=
    Fin.ext (by show 0 + 1 * o.val = o.val; omega)
  have e2 : (((Rect.unit (s := S1x64x2048) ![0, 0, 256 * p.val] S1x64x256.size inb).emb (ix3 (0 : Fin 1) o l)) 2).val = 256 * p.val + l.val := by
    show 256 * p.val + 1 * l.val = _; omega
  rw [pair_apply]
  unfold blkAt
  rw [e1]
  congr 2
  funext r
  by_cases h : l.val < 128
  · rw [dif_pos h, ld_chunk]
    congr 1
    exact congrArg₂ (fun a b => ix4 (0 : Fin 1) a r b) (Fin.ext (by show 2 * p.val = _ / 128; rw [e2]; omega))
      (Fin.ext (by show l.val = _ % 128; rw [e2]; omega))
  · rw [dif_neg h, ld_chunk]
    congr 1
    exact congrArg₂ (fun a b => ix4 (0 : Fin 1) a r b) (Fin.ext (by show 2 * p.val + 1 = _ / 128; rw [e2]; omega))
      (Fin.ext (by show l.val - 128 = _ % 128; rw [e2]; omega))

/-- The block the stores leave, as that one function. -/
theorem outBlk_eq (x0 : Vec Ideal S1x16x216x128 .i32) (x3 : Vec Ideal S1 .f32) (x4 : Vec Ideal S64x1 .f32) (wt : Vec Ideal S64x864 .bf16) :
    outBlk x0 x3 x4 wt = blkAt x0 x3 x4 wt := by
  funext y
  refine View.canon_apply_of_pieces (Val := Elt Ideal) (e := .f32) (blkAt x0 x3 x4 wt) _ (fun p hp x => ?_) y (stores_cover x0 x3 x4 wt y)
  simp only [stores, List.mem_cons, List.not_mem_nil, or_false] at hp
  rcases hp with rfl | rfl | rfl | rfl | rfl | rfl | rfl | rfl
  · exact store_apply x0 x3 x4 wt 7 inb_S1x64x2048_S1x64x256_0_0_1792 inb_S1x16x216x128_S1x1x216x128_0_14_0_0
      inb_S1x16x216x128_S1x1x216x128_0_15_0_0 x
  · exact store_apply x0 x3 x4 wt 6 inb_S1x64x2048_S1x64x256_0_0_1536 inb_S1x16x216x128_S1x1x216x128_0_12_0_0
      inb_S1x16x216x128_S1x1x216x128_0_13_0_0 x
  · exact store_apply x0 x3 x4 wt 5 inb_S1x64x2048_S1x64x256_0_0_1280 inb_S1x16x216x128_S1x1x216x128_0_10_0_0
      inb_S1x16x216x128_S1x1x216x128_0_11_0_0 x
  · exact store_apply x0 x3 x4 wt 4 inb_S1x64x2048_S1x64x256_0_0_1024 inb_S1x16x216x128_S1x1x216x128_0_8_0_0
      inb_S1x16x216x128_S1x1x216x128_0_9_0_0 x
  · exact store_apply x0 x3 x4 wt 3 inb_S1x64x2048_S1x64x256_0_0_768 inb_S1x16x216x128_S1x1x216x128_0_6_0_0
      inb_S1x16x216x128_S1x1x216x128_0_7_0_0 x
  · exact store_apply x0 x3 x4 wt 2 inb_S1x64x2048_S1x64x256_0_0_512 inb_S1x16x216x128_S1x1x216x128_0_4_0_0
      inb_S1x16x216x128_S1x1x216x128_0_5_0_0 x
  · exact store_apply x0 x3 x4 wt 1 inb_S1x64x2048_S1x64x256_0_0_256 inb_S1x16x216x128_S1x1x216x128_0_2_0_0
      inb_S1x16x216x128_S1x1x216x128_0_3_0_0 x
  · exact store_apply x0 x3 x4 wt 0 inb_S1x64x2048_S1x64x256_0_0_0 inb_S1x16x216x128_S1x1x216x128_0_0_0_0
      inb_S1x16x216x128_S1x1x216x128_0_1_0_0 x

/-- One element of the convolution: site `n` of scene `b` of the words, channel `o`. -/
def conv {B : ℕ} (g : (⟨4, ![B, 1024, 216, 128]⟩ : Shape).Idx → BitVec 32) (xs : EReal) (w : S27x32x64.Idx → EReal) (ws : S27x64.Idx → EReal)
    (bias : EReal) (b : Fin B) (n : Fin 131072) (o : Fin 64) : EReal :=
  affineDot (fun q => wEff w ws q o)
    (chan fun r => g (ix4 b (⟨n.val / 128, by omega⟩ : Fin 1024) r (⟨n.val % 128, by omega⟩ : Fin 128))) xs bias

/-- The result array of the call that writes the two scenes from `s₀` on: those are the convolution, the others are as the call finds them. -/
def result (s₀ : ℕ) (g : S2x1024x216x128.Idx → BitVec 32) (xs : S1.Idx → EReal) (w : S27x32x64.Idx → EReal) (ws : S27x64.Idx → EReal)
    (bias : S64x1.Idx → EReal) (y : S8x64x131072.Idx → EReal) : S8x64x131072.Idx → EReal := fun i =>
  if h : s₀ ≤ (i 0).val ∧ (i 0).val < s₀ + 2 then
    conv (B := 2) g (xs (ix1 0)) w ws (bias (ix2 (n0 := 64) (n1 := 1) (i 1) 0)) ⟨(i 0).val - s₀, by omega⟩ (i 2) (i 1)
  else y i

end Cert.Conv
-- ==== Proof.Body.lean ====
module

public import proofs.«01_k».proof.Proof.Gen.KernelIdeal.Regions
public import proofs.«01_k».proof.Proof.Gen.KernelIdeal.Points
public import proofs.«01_k».proof.Proof.Block
public import Idealize.ShloMosaic.Lib.Pipeline.FrameBody
public import Idealize.ShloMosaic.Lib.WordCmp

@[expose] public section

set_option maxRecDepth 16384
set_option maxHeartbeats 1000000

noncomputable section

namespace Cert.Conv

open Cert.KernelIdeal Cert.KernelIdeal.Gen Idealize.ShloMosaic Idealize.ShloMosaic.ValueIdx Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of the whole weight scratch. -/
theorem ld_wt (wt : Vec F S64x864 .bf16) : View.ld wt (Rect.unit ![0, 0] ![64, 864] inb_S64x864_S64x864_0_0) = wt :=
  View.ld_unit_zero (S := S64x864) (funext fun a => by fin_cases a <;> rfl) _ _
/-- A load of the whole bias column. -/
theorem ld_bias (x : Vec F S64x1 .f32) : View.ld x (Rect.unit ![0, 0] ![64, 1] inb_S64x1_S64x1_0_0) = x :=
  View.ld_unit_zero (S := S64x1) (funext fun a => by fin_cases a <;> rfl) _ _
/-- A load of the scale. -/
theorem ld_scale (x : Vec F S1 .f32) (h) : View.ld x (Rect.unit ![0] ![1] inb_S1_S1_0) (Shape.Idx.first h) = x (ix1 0) :=
  congrArg x (funext fun a => by fin_cases a; rfl)
/-- A load of all weight codes. -/
theorem ld_codes (x : Vec F S27x32x64 .fp8e4m3) : View.ld x (Rect.unit ![0, 0, 0] ![27, 32, 64] inb_S27x32x64_S27x32x64_0_0_0) = x :=
  View.ld_unit_zero (S := S27x32x64) (funext fun a => by fin_cases a <;> rfl) _ _
/-- A load of all weight scales. -/
theorem ld_wscale (x : Vec F S27x64 .f32) : View.ld x (Rect.unit ![0, 0] ![27, 64] inb_S27x64_S27x64_0_0) = x :=
  View.ld_unit_zero (S := S27x64) (funext fun a => by fin_cases a <;> rfl) _ _
/-- A load of the whole scratch after one store of all of it. -/
theorem readCov_wt (v : View sig .tc .vmem S64x864 .bf16) (wt : Vec F S64x864 .bf16) :
    v.readCov [(⟨Rect.unit ![0, 0] ![64, 864] inb_S64x864_S64x864_0_0, wt⟩ : View.Piece (Elt F) S64x864 .bf16)]
      (Rect.unit ![0, 0] ![64, 864] inb_S64x864_S64x864_0_0).toLoadRect = wt :=
  View.readCov_unit_zero (S := S64x864) _ (funext fun a => by fin_cases a <;> rfl) _ _

/-- A whole load of chunk words, of the weights, the scale and the bias: what one store takes. -/
theorem pay7_6 (a b : Vec F S1x1x216x128 .i32) (wt : Vec F S64x864 .bf16) (xs : Elt F .f32) (bias : Vec F S64x1 .f32) :
    k0_pay7 (k0_pay6 a b wt xs bias) = k0_pay3 a b wt xs bias := rfl
theorem pay1_14 (a b : Vec F S1x1x216x128 .i32) (wt : Vec F S64x864 .bf16) (xs : Elt F .f32) (bias : Vec F S64x1 .f32) :
    k0_pay1 (k0_pay14 a b wt xs bias) = k0_pay3 a b wt xs bias := rfl
theorem pay13_12 (a b : Vec F S1x1x216x128 .i32) (wt : Vec F S64x864 .bf16) (xs : Elt F .f32) (bias : Vec F S64x1 .f32) :
    k0_pay13 (k0_pay12 a) b wt xs bias = k0_pay3 a b wt xs bias := rfl
theorem pay5_4 (a b : Vec F S1x1x216x128 .i32) (wt : Vec F S64x864 .bf16) (xs : Elt F .f32) (bias : Vec F S64x1 .f32) :
    k0_pay5 (k0_pay4 a) b wt xs bias = k0_pay3 a b wt xs bias := rfl
theorem pay10_9 (a b : Vec F S1x1x216x128 .i32) (wt : Vec F S64x864 .bf16) (xs : Elt F .f32) (bias : Vec F S64x1 .f32) :
    k0_pay10 (k0_pay9 a b wt) xs bias = k0_pay3 a b wt xs bias := rfl
theorem pay11 (a b : Vec F S1x1x216x128 .i32) (wt : Vec F S64x864 .bf16) (xs : Elt F .f32) (bias : Vec F S64x1 .f32) :
    k0_pay11 a b wt xs bias = k0_pay3 a b wt xs bias := rfl
theorem pay8 (a b : Vec F S1x1x216x128 .i32) (wt : Vec F S64x864 .bf16) (xs : Elt F .f32) (bias : Vec F S64x1 .f32) :
    k0_pay8 a b wt xs bias = k0_pay3 a b wt xs bias := rfl

/-- The body's test, whether to make the weights, from the grid coordinates. -/
abbrev cond (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem cond_iff : ∀ t : Fin grid0.N, cond (grid0.coords t) ↔ t.val = 0 := fun t => by
  have ht : t.val < 128 := Nat.lt_of_lt_of_eq t.isLt N_0
  have e0 : (grid0.coords t 0).val = t.val / 64 % 2 := Pipeline.Grid.coords_val t 0 (by decide) rfl
  have e1 : (grid0.coords t 1).val = t.val / 1 % 64 := Pipeline.Grid.coords_val t 1 (by decide) rfl
  have h : cond (grid0.coords t) ↔ t.val % 128 = 0 := by
    simp only [cond, e0, e1]
    word_cmp
  rw [h]; omega

set_option maxHeartbeats 1000000 in
/-- The body at the first point: it makes the weights, then eight stores into the block; the stores, as found by running it. -/
noncomputable def runMake (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : cond i) (x0 : Vec F S1x16x216x128 .i32) (x1 : Vec F S27x32x64 .fp8e4m3) (x2 : Vec F S27x64 .f32) (x3 : Vec F S1 .f32) (x4 : Vec F S64x1 .f32) :
    Σ' (L5 : List (View.Piece (Elt F) S1x64x2048 .f32)), { LS : List (View.Piece (Elt F) S64x864 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0_conv_matmul i arg2 harg2 arg3 harg3 arg4 harg4 arg5 harg5 arg6 harg6 arg8 harg8 arg9 harg9) K } := by
  refine ⟨?_, ?_, fun E K => ?run⟩
  case run =>
    simp only [cc0_conv_matmul_eq_skeleton]; unfold cc0_conv_matmul_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

set_option maxHeartbeats 1000000 in
/-- The body at a later point: it finds the weights `wt`, and makes eight stores into the block; the stores, as found by running it. -/
noncomputable def runKeep (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : ¬cond i) (x0 : Vec F S1x16x216x128 .i32) (x1 : Vec F S27x32x64 .fp8e4m3) (x2 : Vec F S27x64 .f32) (x3 : Vec F S1 .f32) (x4 : Vec F S64x1 .f32) (wt : Vec F S64x864 .bf16) :
    { L5 : List (View.Piece (Elt F) S1x64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
            ∗ (∃ d, owns (c : Thread nD τ) arg8 fullShare d) ∗ owns (c : Thread nD τ) arg9 fullShare wt
            ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
                ∗ (∃ f, arg8.view.loc (c : Thread nD τ) ↦[arg8.view.set]{fullShare} arg8.view.writes (Elt F) f L5) ∗ owns (c : Thread nD τ) arg9 fullShare wt) -∗ K ⟨⟩))
          ⊢ wp frame (wpE (defs₀ (F := F)) Variants.none c none) E (cc0_conv_matmul i arg2 harg2 arg3 harg3 arg4 harg4 arg5 harg5 arg6 harg6 arg8 harg8 arg9 harg9) K } := by
  refine ⟨?_, fun E K => ?run⟩
  case run =>
    simp only [cc0_conv_matmul_eq_skeleton]; unfold cc0_conv_matmul_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg9.read_unread _
    iexact HS0

/-- Those stores are the eight of `stores`, with the weights it made. -/
theorem runMake_stores (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : cond i) (x0 : Vec F S1x16x216x128 .i32) (x1 : Vec F S27x32x64 .fp8e4m3) (x2 : Vec F S27x64 .f32) (x3 : Vec F S1 .f32) (x4 : Vec F S64x1 .f32) :
    (runMake c i arg2 harg2 arg3 harg3 arg4 harg4 arg5 harg5 arg6 harg6 arg8 harg8 arg9 harg9 hc0 x0 x1 x2 x3 x4).1 = stores x0 x3 x4 (k0_pay2 x1 x2) := by
  unfold stores runMake; dsimp only; sl_unfold_words
  simp only [View.readAt_eq_ld, harg2.read_unread, harg3.read_unread, harg4.read_unread, harg5.read_unread, harg6.read_unread,
    harg9.read_unread, ld_wt, ld_bias, ld_codes, ld_wscale, pay1_14, pay13_12, pay11, pay10_9, pay8, pay7_6, pay5_4]
  rw [ld_scale, readCov_wt]

/-- Its one store into the scratch is all of the weights. -/
theorem runMake_scratch (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : cond i) (x0 : Vec F S1x16x216x128 .i32) (x1 : Vec F S27x32x64 .fp8e4m3) (x2 : Vec F S27x64 .f32) (x3 : Vec F S1 .f32) (x4 : Vec F S64x1 .f32) :
    (runMake c i arg2 harg2 arg3 harg3 arg4 harg4 arg5 harg5 arg6 harg6 arg8 harg8 arg9 harg9 hc0 x0 x1 x2 x3 x4).2.1
      = [⟨Rect.unit ![0, 0] ![64, 864] inb_S64x864_S64x864_0_0, k0_pay2 x1 x2⟩] := by
  unfold runMake; dsimp only; sl_unfold_words
  simp only [View.readAt_eq_ld, harg3.read_unread, harg4.read_unread, ld_codes, ld_wscale]

/-- Those stores are the eight of `stores`, with the weights it found. -/
theorem runKeep_stores (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : ¬cond i) (x0 : Vec F S1x16x216x128 .i32) (x1 : Vec F S27x32x64 .fp8e4m3) (x2 : Vec F S27x64 .f32) (x3 : Vec F S1 .f32) (x4 : Vec F S64x1 .f32) (wt : Vec F S64x864 .bf16) :
    (runKeep c i arg2 harg2 arg3 harg3 arg4 harg4 arg5 harg5 arg6 harg6 arg8 harg8 arg9 harg9 hc0 x0 x1 x2 x3 x4 wt).1 = stores x0 x3 x4 wt := by
  unfold stores runKeep; dsimp only; sl_unfold_words
  simp only [View.readAt_eq_ld, harg2.read_unread, harg3.read_unread, harg4.read_unread, harg5.read_unread, harg6.read_unread,
    harg9.read_unread, ld_wt, ld_bias, ld_codes, ld_wscale, pay1_14, pay13_12, pay11, pay10_9, pay8, pay7_6, pay5_4]
  rw [ld_scale]

end Cert.Conv
-- ==== Proof.Point.lean ====
module

public import proofs.«01_k».proof.Proof.Gen.KernelIdeal.Regions
public import proofs.«01_k».proof.Proof.Gen.KernelIdeal.Points
public import proofs.«01_k».proof.Proof.Body
public import Idealize.ShloMosaic.Lib.Pipeline.FrameBody
public import Idealize.ShloMosaic.Lib.WordCmp

@[expose] public section

set_option maxRecDepth 16384
set_option maxHeartbeats 1000000

noncomputable section

namespace Cert.Conv

open Cert.KernelIdeal Cert.KernelIdeal.Gen Idealize.ShloMosaic Idealize.ShloMosaic.ValueIdx Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch after one store of all of it. -/
theorem store_wt (v : View sig .tc .vmem S64x864 .bf16) (f : v.ty.Contents (Elt F)) (w : Vec F S64x864 .bf16) :
    v.read (Elt F) (v.writes (Elt F) f [(⟨Rect.unit ![0, 0] ![64, 864] inb_S64x864_S64x864_0_0, w⟩ : View.Piece (Elt F) S64x864 .bf16)]) = w := by
  rw [View.read_writes_eq_canon v f [(⟨Rect.unit ![0, 0] ![64, 864] inb_S64x864_S64x864_0_0, w⟩ : View.Piece (Elt F) S64x864 .bf16)]
    (fun y => ⟨_, List.mem_singleton_self _, View.mem_set_unit_zero (S := S64x864) (funext fun a => by fin_cases a <;> rfl) inb_S64x864_S64x864_0_0 y⟩)]
  exact View.canon_unit_zero (S := S64x864) (funext fun a => by fin_cases a <;> rfl) _ _

/-- The first point's body: from the words and parameters, the block and the weights are what they should be. -/
theorem body_make (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : cond i) (x0 : Vec F S1x16x216x128 .i32) (x1 : Vec F S27x32x64 .fp8e4m3) (x2 : Vec F S27x64 .f32) (x3 : Vec F S1 .f32) (x4 : Vec F S64x1 .f32)
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
            ∗ owns (c : Thread nD τ) arg8 fullShare (outBlk x0 x3 x4 (k0_pay2 x1 x2)) ∗ owns (c : Thread nD τ) arg9 fullShare (k0_pay2 x1 x2)) -∗ K ⟨⟩))
      ⊢ wp frame (wpE (defs₀ (F := F)) Variants.none c none) E (cc0_conv_matmul i arg2 harg2 arg3 harg3 arg4 harg4 arg5 harg5 arg6 harg6 arg8 harg8 arg9 harg9) K := by
  have hr := (runMake c i arg2 harg2 arg3 harg3 arg4 harg4 arg5 harg5 arg6 harg6 arg8 harg8 arg9 harg9 hc0 x0 x1 x2 x3 x4).2.2 E K
  iintro ⟨H0, H1, H2, H3, H4, H5, HS, Hk⟩
  iapply hr
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%f, H5⟩, ⟨%g, HS⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runMake_stores]; exact View.read_writes_eq_canon _ _ _ (stores_cover x0 x3 x4 _)
  · unfold owns; iexists _; isplitr
    swap; · iexact HS
    ipureintro; rw [runMake_scratch]; exact store_wt _ _ _

/-- A later point's body: it leaves the weights as it found them and the block is made with them. -/
theorem body_keep (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (hc0 : ¬cond i) (x0 : Vec F S1x16x216x128 .i32) (x1 : Vec F S27x32x64 .fp8e4m3) (x2 : Vec F S27x64 .f32) (x3 : Vec F S1 .f32) (x4 : Vec F S64x1 .f32) (wt : Vec F S64x864 .bf16)
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
        ∗ (∃ d, owns (c : Thread nD τ) arg8 fullShare d) ∗ owns (c : Thread nD τ) arg9 fullShare wt
        ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
            ∗ owns (c : Thread nD τ) arg8 fullShare (outBlk x0 x3 x4 wt) ∗ owns (c : Thread nD τ) arg9 fullShare wt) -∗ K ⟨⟩))
      ⊢ wp frame (wpE (defs₀ (F := F)) Variants.none c none) E (cc0_conv_matmul i arg2 harg2 arg3 harg3 arg4 harg4 arg5 harg5 arg6 harg6 arg8 harg8 arg9 harg9) K := by
  have hr := (runKeep c i arg2 harg2 arg3 harg3 arg4 harg4 arg5 harg5 arg6 harg6 arg8 harg8 arg9 harg9 hc0 x0 x1 x2 x3 x4 wt).2 E K
  rw [runKeep_stores] at hr
  iintro ⟨H0, H1, H2, H3, H4, H5, HS, Hk⟩
  iapply hr
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%f, H5⟩, HS⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (stores_cover x0 x3 x4 wt)
  · iexact HS

/-- What a point finds and leaves beside its blocks: before the first point the weight scratch at anything, after any point the weights
    in it; and whatever else (`G`) the region carries along. -/
def carry (c : Dev nD) (arg9 : Memref sig .tc .vmem S64x864 .bf16) (wt : Vec F S64x864 .bf16) (G : sProp 𝕄) (n : ℕ) : sProp 𝕄 :=
  iprop((if n = 0 then iprop(∃ d, owns (c : Thread nD τ) arg9 fullShare d) else owns (c : Thread nD τ) arg9 fullShare wt) ∗ G)

theorem carry_zero (c : Dev nD) (arg9 : Memref sig .tc .vmem S64x864 .bf16) (wt : Vec F S64x864 .bf16) (G : sProp 𝕄) :
    carry c arg9 wt G 0 = iprop((∃ d, owns (c : Thread nD τ) arg9 fullShare d) ∗ G) := by
  unfold carry; rw [if_pos rfl]

theorem carry_pos (c : Dev nD) (arg9 : Memref sig .tc .vmem S64x864 .bf16) (wt : Vec F S64x864 .bf16) (G : sProp 𝕄) (n : ℕ) (h : n ≠ 0) :
    carry c arg9 wt G n = iprop(owns (c : Thread nD τ) arg9 fullShare wt ∗ G) := by
  unfold carry; rw [if_neg h]

/-- The body at the `n`-th point of a region: the inputs stay, the block is `outBlk` of the words with the weights, and the weights are
    carried to the next point. -/
theorem point (c : Dev nD) (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg8 : Memref sig .tc .vmem S1x64x2048 .f32) (harg8 : arg8.IsWhole) (arg9 : Memref sig .tc .vmem S64x864 .bf16) (harg9 : arg9.IsWhole)
    (n : ℕ) (hc : cond i ↔ n = 0) (G O : sProp 𝕄)
    (x0 : Vec F S1x16x216x128 .i32) (x1 : Vec F S27x32x64 .fp8e4m3) (x2 : Vec F S27x64 .f32) (x3 : Vec F S1 .f32) (x4 : Vec F S64x1 .f32)
    {D0 D1 D2 D3 D4 D5 : Type} (y : D5 → Vec F S1x64x2048 .f32) :
    iprop(carry c arg9 (k0_pay2 x1 x2) G n ∗ O
        ∗ (∃ d : D0, owns (c : Thread nD τ) arg2 fullShare x0) ∗ (∃ d : D1, owns (c : Thread nD τ) arg3 fullShare x1)
        ∗ (∃ d : D2, owns (c : Thread nD τ) arg4 fullShare x2) ∗ (∃ d : D3, owns (c : Thread nD τ) arg5 fullShare x3)
        ∗ (∃ d : D4, owns (c : Thread nD τ) arg6 fullShare x4) ∗ (∃ d : D5, owns (c : Thread nD τ) arg8 fullShare (y d)))
      ⊢ wp frame (wpE (defs₀ (F := F)) Variants.none c none) Set.univ (cc0_conv_matmul i arg2 harg2 arg3 harg3 arg4 harg4 arg5 harg5 arg6 harg6 arg8 harg8 arg9 harg9)
          (fun _ => iprop(carry c arg9 (k0_pay2 x1 x2) G (n + 1) ∗ O
            ∗ owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg8 fullShare (outBlk x0 x3 x4 (k0_pay2 x1 x2)))) := by
  rw [carry_pos c arg9 _ G (n + 1) (Nat.succ_ne_zero n)]
  by_cases hz : n = 0
  · subst hz
    rw [carry_zero]
    iintro ⟨⟨HS, HG⟩, HO, ⟨%d0, H0⟩, ⟨%d1, H1⟩, ⟨%d2, H2⟩, ⟨%d3, H3⟩, ⟨%d4, H4⟩, ⟨%d5, H5⟩⟩
    iapply (body_make c i arg2 harg2 arg3 harg3 arg4 harg4 arg5 harg5 arg6 harg6 arg8 harg8 arg9 harg9 (hc.mpr rfl) x0 x1 x2 x3 x4 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HG]
    · isplitl [HS]; · iexact HS
      iexact HG
    isplitl [HO]; · iexact HO
    isplitl [H0]; · iexact H0
    isplitl [H1]; · iexact H1
    isplitl [H2]; · iexact H2
    isplitl [H3]; · iexact H3
    isplitl [H4]; · iexact H4
    iexact H5
  · rw [carry_pos c arg9 _ G n hz]
    iintro ⟨⟨HS, HG⟩, HO, ⟨%d0, H0⟩, ⟨%d1, H1⟩, ⟨%d2, H2⟩, ⟨%d3, H3⟩, ⟨%d4, H4⟩, ⟨%d5, H5⟩⟩
    iapply (body_keep c i arg2 harg2 arg3 harg3 arg4 harg4 arg5 harg5 arg6 harg6 arg8 harg8 arg9 harg9 (fun h => hz (hc.mp h)) x0 x1 x2 x3 x4 (k0_pay2 x1 x2) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HG]
    · isplitl [HS]; · iexact HS
      iexact HG
    isplitl [HO]; · iexact HO
    isplitl [H0]; · iexact H0
    isplitl [H1]; · iexact H1
    isplitl [H2]; · iexact H2
    isplitl [H3]; · iexact H3
    isplitl [H4]; · iexact H4
    iexact H5

end Cert.Conv
-- ==== Proof.Region0.lean ====
module

public import proofs.«01_k».proof.Proof.Point

@[expose] public section

set_option maxRecDepth 16384
set_option maxHeartbeats 1000000

noncomputable section

namespace Cert.Conv.R0

open Cert.Conv Cert.KernelIdeal Cert.KernelIdeal.Gen Idealize.ShloMosaic Idealize.ShloMosaic.ValueIdx Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The call that writes scenes 0 and 1, entered with the buffers at `V`. -/

variable (V : Dev nD → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weights the call makes. -/
abbrev wt (c : Dev nD) : Vec F S64x864 .bf16 := k0_pay2 (V c main_arg5) (V c main_arg6)

/-- What the call carries along untouched: the other calls' scoped buffers and the generator register. -/
abbrev rest (c : Dev nD) : sProp 𝕄 := iprop(Pipeline.scopedRestBut spec0 c [cc0_scratch0] ∗ ∃ r, prngReg c r)

/-- The call's proof data: inputs stay, a point leaves `outBlk` of its words with the weights, the weights are carried. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 3 t) (iblk V c 4 t) (wt V c)
  Φ t := carry c (Memref.whole cc0_scratch0) (wt V c) (rest c) t.val
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = outBlk (iblk V c 0 t) (iblk V c 3 t) (iblk V c 4 t) (wt V c) := by dsimp only [dat]

/-- Every input's current staging buffer holds its block, fetched at the point or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Where each window's block sits: the words' chunk group and the result's block move with the point, the others stay. -/
theorem idx0 : ∀ t : Fin cfg0.N, win0_0.index t (0 : Fin 4) = t.val / 64 ∧ win0_0.index t (1 : Fin 4) = t.val % 64
    ∧ win0_0.index t (2 : Fin 4) = 0 ∧ win0_0.index t (3 : Fin 4) = 0 := (by decide +kernel : ∀ t : Fin grid0.N, _)
theorem idx1 : ∀ t : Fin cfg0.N, win0_1.index t (0 : Fin 3) = 0 ∧ win0_1.index t (1 : Fin 3) = 0
    ∧ win0_1.index t (2 : Fin 3) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 3) = 0 + t.val / 64 ∧ win0_5.index t (1 : Fin 3) = 0
    ∧ win0_5.index t (2 : Fin 3) = t.val % 64 := (by decide +kernel : ∀ t : Fin grid0.N, _)

/-- The words a point finds: scene `t / 64`, chunks `16 (t % 64)` to `16 (t % 64) + 15`. -/
theorem iblk0_apply (c : Dev nD) (t : Fin cfg0.N) (k : Fin 16) (r : Fin 216) (l : Fin 128) :
    iblk V c 0 t (ix4 (0 : Fin 1) k r l) = V c main_arg0 (ix4 (n0 := 2) (n1 := 1024)
      ⟨t.val / 64, by have := lt_of_lt_of_eq t.isLt (show cfg0.N = 128 by rfl); omega⟩
      ⟨16 * (t.val % 64) + k.val, by omega⟩ r l) := by
  obtain ⟨e0, e1, e2, e3⟩ := idx0 t
  show V c main_arg0 (((cfg0.win 0).blk t).view.emb (ix4 (0 : Fin 1) k r l)) = _
  refine congrArg (V c main_arg0) ?_
  funext a; apply Fin.ext
  match a with
  | ⟨0, _⟩ => show win0_0.index t (0 : Fin 4) * 1 + 1 * 0 = t.val / 64; omega
  | ⟨1, _⟩ => show win0_0.index t (1 : Fin 4) * 16 + 1 * k.val = 16 * (t.val % 64) + k.val; omega
  | ⟨2, _⟩ => show win0_0.index t (2 : Fin 4) * 216 + 1 * r.val = r.val; omega
  | ⟨3, _⟩ => show win0_0.index t (3 : Fin 4) * 128 + 1 * l.val = l.val; omega

/-- The weight codes a point finds: all of them. -/
theorem iblk1_eq (c : Dev nD) (t : Fin cfg0.N) : iblk V c 1 t = V c main_arg5 := by
  obtain ⟨e0, e1, e2⟩ := idx1 t
  funext j; show V c main_arg5 (((cfg0.win 1).blk t).view.emb j) = V c main_arg5 j
  refine congrArg (V c main_arg5) ?_
  funext a; apply Fin.ext
  match a with
  | ⟨0, _⟩ => show win0_1.index t (0 : Fin 3) * 27 + 1 * (j 0).val = (j 0).val; omega
  | ⟨1, _⟩ => show win0_1.index t (1 : Fin 3) * 32 + 1 * (j 1).val = (j 1).val; omega
  | ⟨2, _⟩ => show win0_1.index t (2 : Fin 3) * 64 + 1 * (j 2).val = (j 2).val; omega

/-- The weight scales a point finds: all of them. -/
theorem iblk2_eq (c : Dev nD) (t : Fin cfg0.N) : iblk V c 2 t = V c main_arg6 := by
  obtain ⟨e0, e1⟩ := idx2 t
  funext j; show V c main_arg6 (((cfg0.win 2).blk t).view.emb j) = V c main_arg6 j
  refine congrArg (V c main_arg6) ?_
  funext a; apply Fin.ext
  match a with
  | ⟨0, _⟩ => show win0_2.index t (0 : Fin 2) * 27 + 1 * (j 0).val = (j 0).val; omega
  | ⟨1, _⟩ => show win0_2.index t (1 : Fin 2) * 64 + 1 * (j 1).val = (j 1).val; omega

/-- The scale a point finds. -/
theorem iblk3_eq (c : Dev nD) (t : Fin cfg0.N) : iblk V c 3 t = V c main_arg4 := by
  have e0 := idx3 t
  funext j; show V c main_arg4 (((cfg0.win 3).blk t).view.emb j) = V c main_arg4 j
  refine congrArg (V c main_arg4) ?_
  funext a; apply Fin.ext
  match a with
  | ⟨0, _⟩ => show win0_3.index t (0 : Fin 1) * 1 + 1 * (j 0).val = (j 0).val; omega

/-- The bias column a point finds: all of it. -/
theorem iblk4_eq (c : Dev nD) (t : Fin cfg0.N) : iblk V c 4 t = V c main_v0 := by
  obtain ⟨e0, e1⟩ := idx4 t
  funext j; show V c main_v0 (((cfg0.win 4).blk t).view.emb j) = V c main_v0 j
  refine congrArg (V c main_v0) ?_
  funext a; apply Fin.ext
  match a with
  | ⟨0, _⟩ => show win0_4.index t (0 : Fin 2) * 64 + 1 * (j 0).val = (j 0).val; omega
  | ⟨1, _⟩ => show win0_4.index t (1 : Fin 2) * 1 + 1 * (j 1).val = (j 1).val; omega

/-- The body at any point, from what it is called with to what it returns. -/
theorem sound (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d)))
      ⊢ wp frame (wpE (defs₀ (F := F)) Variants.none c none) Set.univ (bodyAt0 t) (fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)
          ∗ owns (c : Thread nD τ) (st0_4 t) fullShare ((dat V c).after 4 t)
          ∗ owns (c : Thread nD τ) (st0_5 t) fullShare ((dat V c).after 5 t))) := by
  unfold bodyAt0

  simp only [before0, before1, before2, before3, before4]
  rw [show (dat V c).owesAt () t.succ = (dat V c).owesAt () t.castSucc from rfl,
    show (dat V c).Φ t.castSucc = carry c (Memref.whole cc0_scratch0) (wt V c) (rest c) t.val from rfl,
    show (dat V c).Φ t.succ = carry c (Memref.whole cc0_scratch0) (wt V c) (rest c) (t.val + 1) from rfl,
    after0, after1, after2, after3, after4, after5, iblk1_eq, iblk2_eq]
  exact point c (grid0.coords t) _ _ _ _ _ _ _ _ _ _ _ _ _ _ t.val (cond_iff t) (rest c) _ (iblk V c 0 t) (V c main_arg5) (V c main_arg6) (iblk V c 3 t) (iblk V c 4 t) _

/-- The library's body obligation, at every point. -/
theorem body_obligation (c : Dev nD) : BodyObligation (dat V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound V c t) rfl .rfl fun _ => .rfl

/-- What the call is entered with gives what its first point needs, -/
theorem hin (c : Dev nD) : iprop(Pipeline.scopedRest spec0 c ∗ ∃ r, prngReg c r) ⊢ (dat V c).Φ 0 := by
  rw [show (dat V c).Φ 0 = carry c (Memref.whole cc0_scratch0) (wt V c) (rest c) 0 from rfl, carry_zero, scopedRest0_split]
  simp only [owns_whole]
  iintro ⟨⟨HS, HB⟩, Hg⟩
  isplitl [HS]; · iexact HS
  isplitl [HB]; · iexact HB
  iexact Hg

/-- and what its last point leaves gives it back. -/
theorem hout (c : Dev nD) : (dat V c).Φ (Fin.last cfg0.N) ⊢ iprop(Pipeline.scopedRest spec0 c ∗ ∃ r, prngReg c r) := by
  rw [show (dat V c).Φ (Fin.last cfg0.N) = carry c (Memref.whole cc0_scratch0) (wt V c) (rest c) 128 from rfl,
    carry_pos _ _ _ _ _ (by decide), scopedRest0_split]
  simp only [owns_whole]
  iintro ⟨HS, HB, Hg⟩
  isplitl [HS HB]
  · isplitl [HS]; · iexists _; iexact HS
    iexact HB
  iexact Hg

/-- What a point writes back. -/
theorem flushed_eq (c : Dev nD) (t : Fin cfg0.N) :
    (dat V c).flushed 5 t = outBlk (iblk V c 0 t) (V c main_arg4) (V c main_v0) (wt V c) := by
  show (cfg0.win 5).cut (grid0.coords t) ((dat V c).after 5 t) = _
  rw [after5, iblk3_eq, iblk4_eq]; rfl

/-- Where an element of a point's result block sits in the array. -/
theorem emb5 (t : Fin cfg0.N) (z : Fin 1) (o : Fin 64) (l : Fin 2048) :
    ((cfg0.win 5).blk t).view.emb (ix3 z o l) = ix3 (n0 := 8) (n1 := 64) (n2 := 131072)
      ⟨0 + t.val / 64, by have := lt_of_lt_of_eq t.isLt (show cfg0.N = 128 by rfl); omega⟩ o
      ⟨2048 * (t.val % 64) + l.val, by omega⟩ := by
  obtain ⟨e0, e1, e2⟩ := idx5 t
  funext a; apply Fin.ext
  match a with
  | ⟨0, _⟩ => show win0_5.index t (0 : Fin 3) * 1 + 1 * z.val = 0 + t.val / 64; omega
  | ⟨1, _⟩ => show win0_5.index t (1 : Fin 3) * 64 + 1 * o.val = o.val; omega
  | ⟨2, _⟩ => show win0_5.index t (2 : Fin 3) * 2048 + 1 * l.val = 2048 * (t.val % 64) + l.val; omega

/-- Two points' result blocks do not meet. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (by
    have h : win0_5.index t = win0_5.index t' := h
    obtain ⟨a0, a1, a2⟩ := idx5 t
    obtain ⟨b0, b1, b2⟩ := idx5 t'
    rw [h] at a0 a2
    exact Fin.ext (by omega))

end Cert.Conv.R0

namespace Cert.Conv.R0

open Cert.Conv Cert.KernelIdeal Cert.KernelIdeal.Gen Idealize.ShloMosaic Idealize.ShloMosaic.ValueIdx Idealize.ShloMosaic.TcCoe

variable (V : Dev nD → Valuation τ sig (Elt Ideal))

/-- The block a point leaves is the convolution of its sites. -/
theorem block_apply (c : Dev nD) (t : Fin cfg0.N) (o : Fin 64) (l : Fin 2048) :
    blkAt (iblk V c 0 t) (V c main_arg4) (V c main_v0) (wt V c) (ix3 (0 : Fin 1) o l)
      = conv (B := 2) (V c main_arg0) (V c main_arg4 (ix1 0)) (V c main_arg5) (V c main_arg6) (V c main_v0 (ix2 o 0))
          ⟨t.val / 64, by have := lt_of_lt_of_eq t.isLt (show cfg0.N = 128 by rfl); omega⟩ ⟨2048 * (t.val % 64) + l.val, by omega⟩ o := by
  unfold blkAt conv
  refine congr (congr (congrArg₂ affineDot (funext fun q => weights_apply _ _ o q) ?_) rfl) rfl
  refine congrArg chan (funext fun r => ?_)
  refine (iblk0_apply V c t _ r _).trans ?_
  exact congrArg₂ (fun a b => V c main_arg0 (ix4 (n0 := 2) _ a r b))
    (Fin.ext (by show 16 * (t.val % 64) + l.val / 128 = (2048 * (t.val % 64) + l.val) / 128; omega))
    (Fin.ext (by show l.val % 128 = (2048 * (t.val % 64) + l.val) % 128; omega))

/-- The result array after the call: scenes 0 and 1 are the convolution of the call's words, the others are as found. -/
theorem final_eq (c : Dev nD) : (dat V c).arrAt 5 cfg0.N
    = result 0 (V c main_arg0) (V c main_arg4) (V c main_arg5) (V c main_arg6) (V c main_v0) (V c main_v1) := by
  funext i
  obtain ⟨s, o, n, rfl⟩ : ∃ (s : Fin 8) (o : Fin 64) (n : Fin 131072), i = ix3 s o n := ⟨i 0, i 1, i 2, eq_ix3 i⟩
  by_cases h : 0 ≤ s.val ∧ s.val < 0 + 2
  · have ht : 64 * (s.val - 0) + n.val / 2048 < 128 := by omega
    have e := emb5 ⟨64 * (s.val - 0) + n.val / 2048, ht⟩ 0 o ⟨n.val % 2048, Nat.mod_lt _ (by decide)⟩
    have e' : ((cfg0.win 5).blk ⟨64 * (s.val - 0) + n.val / 2048, ht⟩).view.emb (ix3 (0 : Fin 1) o (⟨n.val % 2048, Nat.mod_lt _ (by decide)⟩ : Fin 2048)) = ix3 s o n :=
      e.trans (congrArg₂ (fun a b => ix3 a o b) (Fin.ext (by show 0 + _ / 64 = s.val; dsimp only; omega))
        (Fin.ext (by show 2048 * (_ % 64) + n.val % 2048 = n.val; dsimp only; omega)))
    rw [← e']
    rw [(dat V c).arrAt_emb_eq_flushed 5 disjoint5 _ (flush0_5 _), flushed_eq, outBlk_eq, e']
    refine (block_apply V c _ o _).trans ?_
    unfold result
    rw [dif_pos (show 0 ≤ ((ix3 s o n : S8x64x131072.Idx) 0).val ∧ ((ix3 s o n : S8x64x131072.Idx) 0).val < 0 + 2 from h)]
    exact congrArg₂ (fun a b => conv _ _ _ _ _ a b o) (Fin.ext (by show (64 * (s.val - 0) + n.val / 2048) / 64 = s.val - 0; omega))
      (Fin.ext (by show 2048 * ((64 * (s.val - 0) + n.val / 2048) % 64) + n.val % 2048 = n.val; omega))
  · rw [(dat V c).arrAt_apply_of_forall_not_mem 5 cfg0.N (ix3 s o n) ?_, A_eq]
    · unfold result
      rw [dif_neg h]
    · intro t _ _ hm
      obtain ⟨j, hj⟩ := View.exists_emb_of_mem_set _ hm
      obtain ⟨z, o', l, rfl⟩ : ∃ (z : Fin 1) (o' : Fin 64) (l : Fin 2048), j = ix3 z o' l := ⟨j 0, j 1, j 2, eq_ix3 j⟩
      have e0 := congrArg Fin.val (congrFun ((emb5 t z o' l).symm.trans hj) 0)
      have e1 : 0 + t.val / 64 = s.val := e0
      have := lt_of_lt_of_eq t.isLt (show cfg0.N = 128 by rfl)
      omega

end Cert.Conv.R0
-- ==== Proof.Region1.lean ====
module

public import proofs.«01_k».proof.Proof.Point

@[expose] public section

set_option maxRecDepth 16384
set_option maxHeartbeats 1000000

noncomputable section

namespace Cert.Conv.R1

open Cert.Conv Cert.KernelIdeal Cert.KernelIdeal.Gen Idealize.ShloMosaic Idealize.ShloMosaic.ValueIdx Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The call that writes scenes 2 and 3, entered with the buffers at `V`. -/

variable (V : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights the call makes. -/
abbrev wt (c : Dev nD) : Vec F S64x864 .bf16 := k0_pay2 (V c main_arg5) (V c main_arg6)

/-- What the call carries along untouched: the other calls' scoped buffers and the generator register. -/
abbrev rest (c : Dev nD) : sProp 𝕄 := iprop(Pipeline.scopedRestBut spec1 c [cc1_scratch0] ∗ ∃ r, prngReg c r)

/-- The call's proof data: inputs stay, a point leaves `outBlk` of its words with the weights, the weights are carried. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 3 t) (iblk V c 4 t) (wt V c)
  Φ t := carry c (Memref.whole cc1_scratch0) (wt V c) (rest c) t.val
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) :
    (dat V c).after 5 t = outBlk (iblk V c 0 t) (iblk V c 3 t) (iblk V c 4 t) (wt V c) := by dsimp only [dat]

/-- Every input's current staging buffer holds its block, fetched at the point or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Where each window's block sits: the words' chunk group and the result's block move with the point, the others stay. -/
theorem idx0 : ∀ t : Fin cfg1.N, win1_0.index t (0 : Fin 4) = t.val / 64 ∧ win1_0.index t (1 : Fin 4) = t.val % 64
    ∧ win1_0.index t (2 : Fin 4) = 0 ∧ win1_0.index t (3 : Fin 4) = 0 := (by decide +kernel : ∀ t : Fin grid1.N, _)
theorem idx1 : ∀ t : Fin cfg1.N, win1_1.index t (0 : Fin 3) = 0 ∧ win1_1.index t (1 : Fin 3) = 0
    ∧ win1_1.index t (2 : Fin 3) = 0 := (by decide +kernel : ∀ t : Fin grid1.N, _)
theorem idx2 : ∀ t : Fin cfg1.N, win1_2.index t (0 : Fin 2) = 0 ∧ win1_2.index t (1 : Fin 2) = 0 := (by decide +kernel : ∀ t : Fin grid1.N, _)
theorem idx3 : ∀ t : Fin cfg1.N, win1_3.index t (0 : Fin 1) = 0 := (by decide +kernel : ∀ t : Fin grid1.N, _)
theorem idx4 : ∀ t : Fin cfg1.N, win1_4.index t (0 : Fin 2) = 0 ∧ win1_4.index t (1 : Fin 2) = 0 := (by decide +kernel : ∀ t : Fin grid1.N, _)
theorem idx5 : ∀ t : Fin cfg1.N, win1_5.index t (0 : Fin 3) = 2 + t.val / 64 ∧ win1_5.index t (1 : Fin 3) = 0
    ∧ win1_5.index t (2 : Fin 3) = t.val % 64 := (by decide +kernel : ∀ t : Fin grid1.N, _)

/-- The words a point finds: scene `t / 64`, chunks `16 (t % 64)` to `16 (t % 64) + 15`. -/
theorem iblk0_apply (c : Dev nD) (t : Fin cfg1.N) (k : Fin 16) (r : Fin 216) (l : Fin 128) :
    iblk V c 0 t (ix4 (0 : Fin 1) k r l) = V c main_arg1 (ix4 (n0 := 2) (n1 := 1024)
      ⟨t.val / 64, by have := lt_of_lt_of_eq t.isLt (show cfg1.N = 128 by rfl); omega⟩
      ⟨16 * (t.val % 64) + k.val, by omega⟩ r l) := by
  obtain ⟨e0, e1, e2, e3⟩ := idx0 t
  show V c main_arg1 (((cfg1.win 0).blk t).view.emb (ix4 (0 : Fin 1) k r l)) = _
  refine congrArg (V c main_arg1) ?_
  funext a; apply Fin.ext
  match a with
  | ⟨0, _⟩ => show win1_0.index t (0 : Fin 4) * 1 + 1 * 0 = t.val / 64; omega
  | ⟨1, _⟩ => show win1_0.index t (1 : Fin 4) * 16 + 1 * k.val = 16 * (t.val % 64) + k.val; omega
  | ⟨2, _⟩ => show win1_0.index t (2 : Fin 4) * 216 + 1 * r.val = r.val; omega
  | ⟨3, _⟩ => show win1_0.index t (3 : Fin 4) * 128 + 1 * l.val = l.val; omega

/-- The weight codes a point finds: all of them. -/
theorem iblk1_eq (c : Dev nD) (t : Fin cfg1.N) : iblk V c 1 t = V c main_arg5 := by
  obtain ⟨e0, e1, e2⟩ := idx1 t
  funext j; show V c main_arg5 (((cfg1.win 1).blk t).view.emb j) = V c main_arg5 j
  refine congrArg (V c main_arg5) ?_
  funext a; apply Fin.ext
  match a with
  | ⟨0, _⟩ => show win1_1.index t (0 : Fin 3) * 27 + 1 * (j 0).val = (j 0).val; omega
  | ⟨1, _⟩ => show win1_1.index t (1 : Fin 3) * 32 + 1 * (j 1).val = (j 1).val; omega
  | ⟨2, _⟩ => show win1_1.index t (2 : Fin 3) * 64 + 1 * (j 2).val = (j 2).val; omega

/-- The weight scales a point finds: all of them. -/
theorem iblk2_eq (c : Dev nD) (t : Fin cfg1.N) : iblk V c 2 t = V c main_arg6 := by
  obtain ⟨e0, e1⟩ := idx2 t
  funext j; show V c main_arg6 (((cfg1.win 2).blk t).view.emb j) = V c main_arg6 j
  refine congrArg (V c main_arg6) ?_
  funext a; apply Fin.ext
  match a with
  | ⟨0, _⟩ => show win1_2.index t (0 : Fin 2) * 27 + 1 * (j 0).val = (j 0).val; omega
  | ⟨1, _⟩ => show win1_2.index t (1 : Fin 2) * 64 + 1 * (j 1).val = (j 1).val; omega

/-- The scale a point finds. -/
theorem iblk3_eq (c : Dev nD) (t : Fin cfg1.N) : iblk V c 3 t = V c main_arg4 := by
  have e0 := idx3 t
  funext j; show V c main_arg4 (((cfg1.win 3).blk t).view.emb j) = V c main_arg4 j
  refine congrArg (V c main_arg4) ?_
  funext a; apply Fin.ext
  match a with
  | ⟨0, _⟩ => show win1_3.index t (0 : Fin 1) * 1 + 1 * (j 0).val = (j 0).val; omega

/-- The bias column a point finds: all of it. -/
theorem iblk4_eq (c : Dev nD) (t : Fin cfg1.N) : iblk V c 4 t = V c main_v2 := by
  obtain ⟨e0, e1⟩ := idx4 t
  funext j; show V c main_v2 (((cfg1.win 4).blk t).view.emb j) = V c main_v2 j
  refine congrArg (V c main_v2) ?_
  funext a; apply Fin.ext
  match a with
  | ⟨0, _⟩ => show win1_4.index t (0 : Fin 2) * 64 + 1 * (j 0).val = (j 0).val; omega
  | ⟨1, _⟩ => show win1_4.index t (1 : Fin 2) * 1 + 1 * (j 1).val = (j 1).val; omega

/-- The call's body is the first call's. -/
theorem body_eq (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg7 : Memref sig .tc .hbm S8x64x131072 .f32) (harg7 : arg7.IsWhole)
    (arg8 : Memref sig .tc .vmem S1x64x2048 .f32) (harg8 : arg8.IsWhole) (arg9 : Memref sig .tc .vmem S64x864 .bf16) (harg9 : arg9.IsWhole) :
    (cc1_conv_matmul i arg2 harg2 arg3 harg3 arg4 harg4 arg5 harg5 arg6 harg6 arg7 harg7 arg8 harg8 arg9 harg9 : Prog (TpuEff nD τ sig (Elt F) Λ₀ .tc) PUnit)
      = cc0_conv_matmul i arg2 harg2 arg3 harg3 arg4 harg4 arg5 harg5 arg6 harg6 arg8 harg8 arg9 harg9 := rfl

/-- The body at any point, from what it is called with to what it returns. -/
theorem sound (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d)))
      ⊢ wp frame (wpE (defs₀ (F := F)) Variants.none c none) Set.univ (bodyAt1 t) (fun _ =>
        iprop((dat V c).Φ t.succ ∗ (dat V c).owesAt () t.succ
          ∗ owns (c : Thread nD τ) (st1_0 t) fullShare ((dat V c).after 0 t)
          ∗ owns (c : Thread nD τ) (st1_1 t) fullShare ((dat V c).after 1 t)
          ∗ owns (c : Thread nD τ) (st1_2 t) fullShare ((dat V c).after 2 t)
          ∗ owns (c : Thread nD τ) (st1_3 t) fullShare ((dat V c).after 3 t)
          ∗ owns (c : Thread nD τ) (st1_4 t) fullShare ((dat V c).after 4 t)
          ∗ owns (c : Thread nD τ) (st1_5 t) fullShare ((dat V c).after 5 t))) := by
  unfold bodyAt1
  rw [body_eq]
  simp only [before0, before1, before2, before3, before4]
  rw [show (dat V c).owesAt () t.succ = (dat V c).owesAt () t.castSucc from rfl,
    show (dat V c).Φ t.castSucc = carry c (Memref.whole cc1_scratch0) (wt V c) (rest c) t.val from rfl,
    show (dat V c).Φ t.succ = carry c (Memref.whole cc1_scratch0) (wt V c) (rest c) (t.val + 1) from rfl,
    after0, after1, after2, after3, after4, after5, iblk1_eq, iblk2_eq]
  exact point c (grid1.coords t) _ _ _ _ _ _ _ _ _ _ _ _ _ _ t.val (cond_iff t) (rest c) _ (iblk V c 0 t) (V c main_arg5) (V c main_arg6) (iblk V c 3 t) (iblk V c 4 t) _

/-- The library's body obligation, at every point. -/
theorem body_obligation (c : Dev nD) : BodyObligation (dat V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound V c t) rfl .rfl fun _ => .rfl

/-- What the call is entered with gives what its first point needs, -/
theorem hin (c : Dev nD) : iprop(Pipeline.scopedRest spec1 c ∗ ∃ r, prngReg c r) ⊢ (dat V c).Φ 0 := by
  rw [show (dat V c).Φ 0 = carry c (Memref.whole cc1_scratch0) (wt V c) (rest c) 0 from rfl, carry_zero, scopedRest1_split]
  simp only [owns_whole]
  iintro ⟨⟨HS, HB⟩, Hg⟩
  isplitl [HS]; · iexact HS
  isplitl [HB]; · iexact HB
  iexact Hg

/-- and what its last point leaves gives it back. -/
theorem hout (c : Dev nD) : (dat V c).Φ (Fin.last cfg1.N) ⊢ iprop(Pipeline.scopedRest spec1 c ∗ ∃ r, prngReg c r) := by
  rw [show (dat V c).Φ (Fin.last cfg1.N) = carry c (Memref.whole cc1_scratch0) (wt V c) (rest c) 128 from rfl,
    carry_pos _ _ _ _ _ (by decide), scopedRest1_split]
  simp only [owns_whole]
  iintro ⟨HS, HB, Hg⟩
  isplitl [HS HB]
  · isplitl [HS]; · iexists _; iexact HS
    iexact HB
  iexact Hg

/-- What a point writes back. -/
theorem flushed_eq (c : Dev nD) (t : Fin cfg1.N) :
    (dat V c).flushed 5 t = outBlk (iblk V c 0 t) (V c main_arg4) (V c main_v2) (wt V c) := by
  show (cfg1.win 5).cut (grid1.coords t) ((dat V c).after 5 t) = _
  rw [after5, iblk3_eq, iblk4_eq]; rfl

/-- Where an element of a point's result block sits in the array. -/
theorem emb5 (t : Fin cfg1.N) (z : Fin 1) (o : Fin 64) (l : Fin 2048) :
    ((cfg1.win 5).blk t).view.emb (ix3 z o l) = ix3 (n0 := 8) (n1 := 64) (n2 := 131072)
      ⟨2 + t.val / 64, by have := lt_of_lt_of_eq t.isLt (show cfg1.N = 128 by rfl); omega⟩ o
      ⟨2048 * (t.val % 64) + l.val, by omega⟩ := by
  obtain ⟨e0, e1, e2⟩ := idx5 t
  funext a; apply Fin.ext
  match a with
  | ⟨0, _⟩ => show win1_5.index t (0 : Fin 3) * 1 + 1 * z.val = 2 + t.val / 64; omega
  | ⟨1, _⟩ => show win1_5.index t (1 : Fin 3) * 64 + 1 * o.val = o.val; omega
  | ⟨2, _⟩ => show win1_5.index t (2 : Fin 3) * 2048 + 1 * l.val = 2048 * (t.val % 64) + l.val; omega

/-- Two points' result blocks do not meet. -/
theorem disjoint5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (by
    have h : win1_5.index t = win1_5.index t' := h
    obtain ⟨a0, a1, a2⟩ := idx5 t
    obtain ⟨b0, b1, b2⟩ := idx5 t'
    rw [h] at a0 a2
    exact Fin.ext (by omega))

end Cert.Conv.R1

namespace Cert.Conv.R1

open Cert.Conv Cert.KernelIdeal Cert.KernelIdeal.Gen Idealize.ShloMosaic Idealize.ShloMosaic.ValueIdx Idealize.ShloMosaic.TcCoe

variable (V : Dev nD → Valuation τ sig (Elt Ideal))

/-- The block a point leaves is the convolution of its sites. -/
theorem block_apply (c : Dev nD) (t : Fin cfg1.N) (o : Fin 64) (l : Fin 2048) :
    blkAt (iblk V c 0 t) (V c main_arg4) (V c main_v2) (wt V c) (ix3 (0 : Fin 1) o l)
      = conv (B := 2) (V c main_arg1) (V c main_arg4 (ix1 0)) (V c main_arg5) (V c main_arg6) (V c main_v2 (ix2 o 0))
          ⟨t.val / 64, by have := lt_of_lt_of_eq t.isLt (show cfg1.N = 128 by rfl); omega⟩ ⟨2048 * (t.val % 64) + l.val, by omega⟩ o := by
  unfold blkAt conv
  refine congr (congr (congrArg₂ affineDot (funext fun q => weights_apply _ _ o q) ?_) rfl) rfl
  refine congrArg chan (funext fun r => ?_)
  refine (iblk0_apply V c t _ r _).trans ?_
  exact congrArg₂ (fun a b => V c main_arg1 (ix4 (n0 := 2) _ a r b))
    (Fin.ext (by show 16 * (t.val % 64) + l.val / 128 = (2048 * (t.val % 64) + l.val) / 128; omega))
    (Fin.ext (by show l.val % 128 = (2048 * (t.val % 64) + l.val) % 128; omega))

/-- The result array after the call: scenes 2 and 3 are the convolution of the call's words, the others are as found. -/
theorem final_eq (c : Dev nD) : (dat V c).arrAt 5 cfg1.N
    = result 2 (V c main_arg1) (V c main_arg4) (V c main_arg5) (V c main_arg6) (V c main_v2) (V c main_v3) := by
  funext i
  obtain ⟨s, o, n, rfl⟩ : ∃ (s : Fin 8) (o : Fin 64) (n : Fin 131072), i = ix3 s o n := ⟨i 0, i 1, i 2, eq_ix3 i⟩
  by_cases h : 2 ≤ s.val ∧ s.val < 2 + 2
  · have ht : 64 * (s.val - 2) + n.val / 2048 < 128 := by omega
    have e := emb5 ⟨64 * (s.val - 2) + n.val / 2048, ht⟩ 0 o ⟨n.val % 2048, Nat.mod_lt _ (by decide)⟩
    have e' : ((cfg1.win 5).blk ⟨64 * (s.val - 2) + n.val / 2048, ht⟩).view.emb (ix3 (0 : Fin 1) o (⟨n.val % 2048, Nat.mod_lt _ (by decide)⟩ : Fin 2048)) = ix3 s o n :=
      e.trans (congrArg₂ (fun a b => ix3 a o b) (Fin.ext (by show 2 + _ / 64 = s.val; dsimp only; omega))
        (Fin.ext (by show 2048 * (_ % 64) + n.val % 2048 = n.val; dsimp only; omega)))
    rw [← e']
    rw [(dat V c).arrAt_emb_eq_flushed 5 disjoint5 _ (flush1_5 _), flushed_eq, outBlk_eq, e']
    refine (block_apply V c _ o _).trans ?_
    unfold result
    rw [dif_pos (show 2 ≤ ((ix3 s o n : S8x64x131072.Idx) 0).val ∧ ((ix3 s o n : S8x64x131072.Idx) 0).val < 2 + 2 from h)]
    exact congrArg₂ (fun a b => conv _ _ _ _ _ a b o) (Fin.ext (by show (64 * (s.val - 2) + n.val / 2048) / 64 = s.val - 2; omega))
      (Fin.ext (by show 2048 * ((64 * (s.val - 2) + n.val / 2048) % 64) + n.val % 2048 = n.val; omega))
  · rw [(dat V c).arrAt_apply_of_forall_not_mem 5 cfg1.N (ix3 s o n) ?_, A_eq]
    · unfold result
      rw [dif_neg h]
    · intro t _ _ hm
      obtain ⟨j, hj⟩ := View.exists_emb_of_mem_set _ hm
      obtain ⟨z, o', l, rfl⟩ : ∃ (z : Fin 1) (o' : Fin 64) (l : Fin 2048), j = ix3 z o' l := ⟨j 0, j 1, j 2, eq_ix3 j⟩
      have e0 := congrArg Fin.val (congrFun ((emb5 t z o' l).symm.trans hj) 0)
      have e1 : 2 + t.val / 64 = s.val := e0
      have := lt_of_lt_of_eq t.isLt (show cfg1.N = 128 by rfl)
      omega

end Cert.Conv.R1
-- ==== Proof.Region2.lean ====
module

public import proofs.«01_k».proof.Proof.Point

@[expose] public section

set_option maxRecDepth 16384
set_option maxHeartbeats 1000000

noncomputable section

namespace Cert.Conv.R2

open Cert.Conv Cert.KernelIdeal Cert.KernelIdeal.Gen Idealize.ShloMosaic Idealize.ShloMosaic.ValueIdx Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The call that writes scenes 4 and 5, entered with the buffers at `V`. -/

variable (V : Dev nD → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weights the call makes. -/
abbrev wt (c : Dev nD) : Vec F S64x864 .bf16 := k0_pay2 (V c main_arg5) (V c main_arg6)

/-- What the call carries along untouched: the other calls' scoped buffers and the generator register. -/
abbrev rest (c : Dev nD) : sProp 𝕄 := iprop(Pipeline.scopedRestBut spec2 c [cc2_scratch0] ∗ ∃ r, prngReg c r)

/-- The call's proof data: inputs stay, a point leaves `outBlk` of its words with the weights, the weights are carried. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 3 t) (iblk V c 4 t) (wt V c)
  Φ t := carry c (Memref.whole cc2_scratch0) (wt V c) (rest c) t.val
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) :
    (dat V c).after 5 t = outBlk (iblk V c 0 t) (iblk V c 3 t) (iblk V c 4 t) (wt V c) := by dsimp only [dat]

/-- Every input's current staging buffer holds its block, fetched at the point or not. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg2.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Where each window's block sits: the words' chunk group and the result's block move with the point, the others stay. -/
theorem idx0 : ∀ t : Fin cfg2.N, win2_0.index t (0 : Fin 4) = t.val / 64 ∧ win2_0.index t (1 : Fin 4) = t.val % 64
    ∧ win2_0.index t (2 : Fin 4) = 0 ∧ win2_0.index t (3 : Fin 4) = 0 := (by decide +kernel : ∀ t : Fin grid2.N, _)
theorem idx1 : ∀ t : Fin cfg2.N, win2_1.index t (0 : Fin 3) = 0 ∧ win2_1.index t (1 : Fin 3) = 0
    ∧ win2_1.index t (2 : Fin 3) = 0 := (by decide +kernel : ∀ t : Fin grid2.N, _)
theorem idx2 : ∀ t : Fin cfg2.N, win2_2.index t (0 : Fin 2) = 0 ∧ win2_2.index t (1 : Fin 2) = 0 := (by decide +kernel : ∀ t : Fin grid2.N, _)
theorem idx3 : ∀ t : Fin cfg2.N, win2_3.index t (0 : Fin 1) = 0 := (by decide +kernel : ∀ t : Fin grid2.N, _)
theorem idx4 : ∀ t : Fin cfg2.N, win2_4.index t (0 : Fin 2) = 0 ∧ win2_4.index t (1 : Fin 2) = 0 := (by decide +kernel : ∀ t : Fin grid2.N, _)
theorem idx5 : ∀ t : Fin cfg2.N, win2_5.index t (0 : Fin 3) = 4 + t.val / 64 ∧ win2_5.index t (1 : Fin 3) = 0
    ∧ win2_5.index t (2 : Fin 3) = t.val % 64 := (by decide +kernel : ∀ t : Fin grid2.N, _)

/-- The words a point finds: scene `t / 64`, chunks `16 (t % 64)` to `16 (t % 64) + 15`. -/
theorem iblk0_apply (c : Dev nD) (t : Fin cfg2.N) (k : Fin 16) (r : Fin 216) (l : Fin 128) :
    iblk V c 0 t (ix4 (0 : Fin 1) k r l) = V c main_arg2 (ix4 (n0 := 2) (n1 := 1024)
      ⟨t.val / 64, by have := lt_of_lt_of_eq t.isLt (show cfg2.N = 128 by rfl); omega⟩
      ⟨16 * (t.val % 64) + k.val, by omega⟩ r l) := by
  obtain ⟨e0, e1, e2, e3⟩ := idx0 t
  show V c main_arg2 (((cfg2.win 0).blk t).view.emb (ix4 (0 : Fin 1) k r l)) = _
  refine congrArg (V c main_arg2) ?_
  funext a; apply Fin.ext
  match a with
  | ⟨0, _⟩ => show win2_0.index t (0 : Fin 4) * 1 + 1 * 0 = t.val / 64; omega
  | ⟨1, _⟩ => show win2_0.index t (1 : Fin 4) * 16 + 1 * k.val = 16 * (t.val % 64) + k.val; omega
  | ⟨2, _⟩ => show win2_0.index t (2 : Fin 4) * 216 + 1 * r.val = r.val; omega
  | ⟨3, _⟩ => show win2_0.index t (3 : Fin 4) * 128 + 1 * l.val = l.val; omega

/-- The weight codes a point finds: all of them. -/
theorem iblk1_eq (c : Dev nD) (t : Fin cfg2.N) : iblk V c 1 t = V c main_arg5 := by
  obtain ⟨e0, e1, e2⟩ := idx1 t
  funext j; show V c main_arg5 (((cfg2.win 1).blk t).view.emb j) = V c main_arg5 j
  refine congrArg (V c main_arg5) ?_
  funext a; apply Fin.ext
  match a with
  | ⟨0, _⟩ => show win2_1.index t (0 : Fin 3) * 27 + 1 * (j 0).val = (j 0).val; omega
  | ⟨1, _⟩ => show win2_1.index t (1 : Fin 3) * 32 + 1 * (j 1).val = (j 1).val; omega
  | ⟨2, _⟩ => show win2_1.index t (2 : Fin 3) * 64 + 1 * (j 2).val = (j 2).val; omega

/-- The weight scales a point finds: all of them. -/
theorem iblk2_eq (c : Dev nD) (t : Fin cfg2.N) : iblk V c 2 t = V c main_arg6 := by
  obtain ⟨e0, e1⟩ := idx2 t
  funext j; show V c main_arg6 (((cfg2.win 2).blk t).view.emb j) = V c main_arg6 j
  refine congrArg (V c main_arg6) ?_
  funext a; apply Fin.ext
  match a with
  | ⟨0, _⟩ => show win2_2.index t (0 : Fin 2) * 27 + 1 * (j 0).val = (j 0).val; omega
  | ⟨1, _⟩ => show win2_2.index t (1 : Fin 2) * 64 + 1 * (j 1).val = (j 1).val; omega

/-- The scale a point finds. -/
theorem iblk3_eq (c : Dev nD) (t : Fin cfg2.N) : iblk V c 3 t = V c main_arg4 := by
  have e0 := idx3 t
  funext j; show V c main_arg4 (((cfg2.win 3).blk t).view.emb j) = V c main_arg4 j
  refine congrArg (V c main_arg4) ?_
  funext a; apply Fin.ext
  match a with
  | ⟨0, _⟩ => show win2_3.index t (0 : Fin 1) * 1 + 1 * (j 0).val = (j 0).val; omega

/-- The bias column a point finds: all of it. -/
theorem iblk4_eq (c : Dev nD) (t : Fin cfg2.N) : iblk V c 4 t = V c main_v4 := by
  obtain ⟨e0, e1⟩ := idx4 t
  funext j; show V c main_v4 (((cfg2.win 4).blk t).view.emb j) = V c main_v4 j
  refine congrArg (V c main_v4) ?_
  funext a; apply Fin.ext
  match a with
  | ⟨0, _⟩ => show win2_4.index t (0 : Fin 2) * 64 + 1 * (j 0).val = (j 0).val; omega
  | ⟨1, _⟩ => show win2_4.index t (1 : Fin 2) * 1 + 1 * (j 1).val = (j 1).val; omega

/-- The call's body is the first call's. -/
theorem body_eq (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg7 : Memref sig .tc .hbm S8x64x131072 .f32) (harg7 : arg7.IsWhole)
    (arg8 : Memref sig .tc .vmem S1x64x2048 .f32) (harg8 : arg8.IsWhole) (arg9 : Memref sig .tc .vmem S64x864 .bf16) (harg9 : arg9.IsWhole) :
    (cc2_conv_matmul i arg2 harg2 arg3 harg3 arg4 harg4 arg5 harg5 arg6 harg6 arg7 harg7 arg8 harg8 arg9 harg9 : Prog (TpuEff nD τ sig (Elt F) Λ₀ .tc) PUnit)
      = cc0_conv_matmul i arg2 harg2 arg3 harg3 arg4 harg4 arg5 harg5 arg6 harg6 arg8 harg8 arg9 harg9 := rfl

/-- The body at any point, from what it is called with to what it returns. -/
theorem sound (c : Dev nD) (t : Fin cfg2.N) :
    iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d))
      ∗ (∃ d, owns (c : Thread nD τ) (st2_3 t) fullShare ((dat V c).before 3 t d))
      ∗ (∃ d, owns (c : Thread nD τ) (st2_4 t) fullShare ((dat V c).before 4 t d))
      ∗ (∃ d, owns (c : Thread nD τ) (st2_5 t) fullShare ((dat V c).before 5 t d)))
      ⊢ wp frame (wpE (defs₀ (F := F)) Variants.none c none) Set.univ (bodyAt2 t) (fun _ =>
        iprop((dat V c).Φ t.succ ∗ (dat V c).owesAt () t.succ
          ∗ owns (c : Thread nD τ) (st2_0 t) fullShare ((dat V c).after 0 t)
          ∗ owns (c : Thread nD τ) (st2_1 t) fullShare ((dat V c).after 1 t)
          ∗ owns (c : Thread nD τ) (st2_2 t) fullShare ((dat V c).after 2 t)
          ∗ owns (c : Thread nD τ) (st2_3 t) fullShare ((dat V c).after 3 t)
          ∗ owns (c : Thread nD τ) (st2_4 t) fullShare ((dat V c).after 4 t)
          ∗ owns (c : Thread nD τ) (st2_5 t) fullShare ((dat V c).after 5 t))) := by
  unfold bodyAt2
  rw [body_eq]
  simp only [before0, before1, before2, before3, before4]
  rw [show (dat V c).owesAt () t.succ = (dat V c).owesAt () t.castSucc from rfl,
    show (dat V c).Φ t.castSucc = carry c (Memref.whole cc2_scratch0) (wt V c) (rest c) t.val from rfl,
    show (dat V c).Φ t.succ = carry c (Memref.whole cc2_scratch0) (wt V c) (rest c) (t.val + 1) from rfl,
    after0, after1, after2, after3, after4, after5, iblk1_eq, iblk2_eq]
  exact point c (grid2.coords t) _ _ _ _ _ _ _ _ _ _ _ _ _ _ t.val (cond_iff t) (rest c) _ (iblk V c 0 t) (V c main_arg5) (V c main_arg6) (iblk V c 3 t) (iblk V c 4 t) _

/-- The library's body obligation, at every point. -/
theorem body_obligation (c : Dev nD) : BodyObligation (dat V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (sound V c t) rfl .rfl fun _ => .rfl

/-- What the call is entered with gives what its first point needs, -/
theorem hin (c : Dev nD) : iprop(Pipeline.scopedRest spec2 c ∗ ∃ r, prngReg c r) ⊢ (dat V c).Φ 0 := by
  rw [show (dat V c).Φ 0 = carry c (Memref.whole cc2_scratch0) (wt V c) (rest c) 0 from rfl, carry_zero, scopedRest2_split]
  simp only [owns_whole]
  iintro ⟨⟨HS, HB⟩, Hg⟩
  isplitl [HS]; · iexact HS
  isplitl [HB]; · iexact HB
  iexact Hg

/-- and what its last point leaves gives it back. -/
theorem hout (c : Dev nD) : (dat V c).Φ (Fin.last cfg2.N) ⊢ iprop(Pipeline.scopedRest spec2 c ∗ ∃ r, prngReg c r) := by
  rw [show (dat V c).Φ (Fin.last cfg2.N) = carry c (Memref.whole cc2_scratch0) (wt V c) (rest c) 128 from rfl,
    carry_pos _ _ _ _ _ (by decide), scopedRest2_split]
  simp only [owns_whole]
  iintro ⟨HS, HB, Hg⟩
  isplitl [HS HB]
  · isplitl [HS]; · iexists _; iexact HS
    iexact HB
  iexact Hg

/-- What a point writes back. -/
theorem flushed_eq (c : Dev nD) (t : Fin cfg2.N) :
    (dat V c).flushed 5 t = outBlk (iblk V c 0 t) (V c main_arg4) (V c main_v4) (wt V c) := by
  show (cfg2.win 5).cut (grid2.coords t) ((dat V c).after 5 t) = _
  rw [after5, iblk3_eq, iblk4_eq]; rfl

/-- Where an element of a point's result block sits in the array. -/
theorem emb5 (t : Fin cfg2.N) (z : Fin 1) (o : Fin 64) (l : Fin 2048) :
    ((cfg2.win 5).blk t).view.emb (ix3 z o l) = ix3 (n0 := 8) (n1 := 64) (n2 := 131072)
      ⟨4 + t.val / 64, by have := lt_of_lt_of_eq t.isLt (show cfg2.N = 128 by rfl); omega⟩ o
      ⟨2048 * (t.val % 64) + l.val, by omega⟩ := by
  obtain ⟨e0, e1, e2⟩ := idx5 t
  funext a; apply Fin.ext
  match a with
  | ⟨0, _⟩ => show win2_5.index t (0 : Fin 3) * 1 + 1 * z.val = 4 + t.val / 64; omega
  | ⟨1, _⟩ => show win2_5.index t (1 : Fin 3) * 64 + 1 * o.val = o.val; omega
  | ⟨2, _⟩ => show win2_5.index t (2 : Fin 3) * 2048 + 1 * l.val = 2048 * (t.val % 64) + l.val; omega

/-- Two points' result blocks do not meet. -/
theorem disjoint5 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (by
    have h : win2_5.index t = win2_5.index t' := h
    obtain ⟨a0, a1, a2⟩ := idx5 t
    obtain ⟨b0, b1, b2⟩ := idx5 t'
    rw [h] at a0 a2
    exact Fin.ext (by omega))

end Cert.Conv.R2

namespace Cert.Conv.R2

open Cert.Conv Cert.KernelIdeal Cert.KernelIdeal.Gen Idealize.ShloMosaic Idealize.ShloMosaic.ValueIdx Idealize.ShloMosaic.TcCoe

variable (V : Dev nD → Valuation τ sig (Elt Ideal))

/-- The block a point leaves is the convolution of its sites. -/
theorem block_apply (c : Dev nD) (t : Fin cfg2.N) (o : Fin 64) (l : Fin 2048) :
    blkAt (iblk V c 0 t) (V c main_arg4) (V c main_v4) (wt V c) (ix3 (0 : Fin 1) o l)
      = conv (B := 2) (V c main_arg2) (V c main_arg4 (ix1 0)) (V c main_arg5) (V c main_arg6) (V c main_v4 (ix2 o 0))
          ⟨t.val / 64, by have := lt_of_lt_of_eq t.isLt (show cfg2.N = 128 by rfl); omega⟩ ⟨2048 * (t.val % 64) + l.val, by omega⟩ o := by
  unfold blkAt conv
  refine congr (congr (congrArg₂ affineDot (funext fun q => weights_apply _ _ o q) ?_) rfl) rfl
  refine congrArg chan (funext fun r => ?_)
  refine (iblk0_apply V c t _ r _).trans ?_
  exact congrArg₂ (fun a b => V c main_arg2 (ix4 (n0 := 2) _ a r b))
    (Fin.ext (by show 16 * (t.val % 64) + l.val / 128 = (2048 * (t.val % 64) + l.val) / 128; omega))
    (Fin.ext (by show l.val % 128 = (2048 * (t.val % 64) + l.val) % 128; omega))

/-- The result array after the call: scenes 4 and 5 are the convolution of the call's words, the others are as found. -/
theorem final_eq (c : Dev nD) : (dat V c).arrAt 5 cfg2.N
    = result 4 (V c main_arg2) (V c main_arg4) (V c main_arg5) (V c main_arg6) (V c main_v4) (V c main_v5) := by
  funext i
  obtain ⟨s, o, n, rfl⟩ : ∃ (s : Fin 8) (o : Fin 64) (n : Fin 131072), i = ix3 s o n := ⟨i 0, i 1, i 2, eq_ix3 i⟩
  by_cases h : 4 ≤ s.val ∧ s.val < 4 + 2
  · have ht : 64 * (s.val - 4) + n.val / 2048 < 128 := by omega
    have e := emb5 ⟨64 * (s.val - 4) + n.val / 2048, ht⟩ 0 o ⟨n.val % 2048, Nat.mod_lt _ (by decide)⟩
    have e' : ((cfg2.win 5).blk ⟨64 * (s.val - 4) + n.val / 2048, ht⟩).view.emb (ix3 (0 : Fin 1) o (⟨n.val % 2048, Nat.mod_lt _ (by decide)⟩ : Fin 2048)) = ix3 s o n :=
      e.trans (congrArg₂ (fun a b => ix3 a o b) (Fin.ext (by show 4 + _ / 64 = s.val; dsimp only; omega))
        (Fin.ext (by show 2048 * (_ % 64) + n.val % 2048 = n.val; dsimp only; omega)))
    rw [← e']
    rw [(dat V c).arrAt_emb_eq_flushed 5 disjoint5 _ (flush2_5 _), flushed_eq, outBlk_eq, e']
    refine (block_apply V c _ o _).trans ?_
    unfold result
    rw [dif_pos (show 4 ≤ ((ix3 s o n : S8x64x131072.Idx) 0).val ∧ ((ix3 s o n : S8x64x131072.Idx) 0).val < 4 + 2 from h)]
    exact congrArg₂ (fun a b => conv _ _ _ _ _ a b o) (Fin.ext (by show (64 * (s.val - 4) + n.val / 2048) / 64 = s.val - 4; omega))
      (Fin.ext (by show 2048 * ((64 * (s.val - 4) + n.val / 2048) % 64) + n.val % 2048 = n.val; omega))
  · rw [(dat V c).arrAt_apply_of_forall_not_mem 5 cfg2.N (ix3 s o n) ?_, A_eq]
    · unfold result
      rw [dif_neg h]
    · intro t _ _ hm
      obtain ⟨j, hj⟩ := View.exists_emb_of_mem_set _ hm
      obtain ⟨z, o', l, rfl⟩ : ∃ (z : Fin 1) (o' : Fin 64) (l : Fin 2048), j = ix3 z o' l := ⟨j 0, j 1, j 2, eq_ix3 j⟩
      have e0 := congrArg Fin.val (congrFun ((emb5 t z o' l).symm.trans hj) 0)
      have e1 : 4 + t.val / 64 = s.val := e0
      have := lt_of_lt_of_eq t.isLt (show cfg2.N = 128 by rfl)
      omega

end Cert.Conv.R2
-- ==== Proof.Region3.lean ====
module

public import proofs.«01_k».proof.Proof.Point

@[expose] public section

set_option maxRecDepth 16384
set_option maxHeartbeats 1000000

noncomputable section

namespace Cert.Conv.R3

open Cert.Conv Cert.KernelIdeal Cert.KernelIdeal.Gen Idealize.ShloMosaic Idealize.ShloMosaic.ValueIdx Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The call that writes scenes 6 and 7, entered with the buffers at `V`. -/

variable (V : Dev nD → Valuation τ sig (Elt F))

/-- Window `w`'s block at point `t`, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The weights the call makes. -/
abbrev wt (c : Dev nD) : Vec F S64x864 .bf16 := k0_pay2 (V c main_arg5) (V c main_arg6)

/-- What the call carries along untouched: the other calls' scoped buffers and the generator register. -/
abbrev rest (c : Dev nD) : sProp 𝕄 := iprop(Pipeline.scopedRestBut spec3 c [cc3_scratch0] ∗ ∃ r, prngReg c r)

/-- The call's proof data: inputs stay, a point leaves `outBlk` of its words with the weights, the weights are carried. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 3 t) (iblk V c 4 t) (wt V c)
  Φ t := carry c (Memref.whole cc3_scratch0) (wt V c) (rest c) t.val
  q _ := fullShare
  owed _ := 0

theorem A_eq (c : Dev nD) (w : Fin cfg3.W) : (dat V c).A w = V c (Pipeline.arrRef spec3 w) := by dsimp only [dat]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) :
    (dat V c).after 5 t = outBlk (iblk V c 0 t) (iblk V c 3 t) (iblk V c 4 t) (wt V c) := by dsimp only [dat]

/-- Every input's current staging buffer holds its block, fetched at the point or not. -/
theorem before0 (c : Dev nD) (t : Fin cfg3.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg3.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Where each window's block sits: the words' chunk group and the result's block move with the point, the others stay. -/
theorem idx0 : ∀ t : Fin cfg3.N, win3_0.index t (0 : Fin 4) = t.val / 64 ∧ win3_0.index t (1 : Fin 4) = t.val % 64
    ∧ win3_0.index t (2 : Fin 4) = 0 ∧ win3_0.index t (3 : Fin 4) = 0 := (by decide +kernel : ∀ t : Fin grid3.N, _)
theorem idx1 : ∀ t : Fin cfg3.N, win3_1.index t (0 : Fin 3) = 0 ∧ win3_1.index t (1 : Fin 3) = 0
    ∧ win3_1.index t (2 : Fin 3) = 0 := (by decide +kernel : ∀ t : Fin grid3.N, _)
theorem idx2 : ∀ t : Fin cfg3.N, win3_2.index t (0 : Fin 2) = 0 ∧ win3_2.index t (1 : Fin 2) = 0 := (by decide +kernel : ∀ t : Fin grid3.N, _)
theorem idx3 : ∀ t : Fin cfg3.N, win3_3.index t (0 : Fin 1) = 0 := (by decide +kernel : ∀ t : Fin grid3.N, _)
theorem idx4 : ∀ t : Fin cfg3.N, win3_4.index t (0 : Fin 2) = 0 ∧ win3_4.index t (1 : Fin 2) = 0 := (by decide +kernel : ∀ t : Fin grid3.N, _)
theorem idx5 : ∀ t : Fin cfg3.N, win3_5.index t (0 : Fin 3) = 6 + t.val / 64 ∧ win3_5.index t (1 : Fin 3) = 0
    ∧ win3_5.index t (2 : Fin 3) = t.val % 64 := (by decide +kernel : ∀ t : Fin grid3.N, _)

/-- The words a point finds: scene `t / 64`, chunks `16 (t % 64)` to `16 (t % 64) + 15`. -/
theorem iblk0_apply (c : Dev nD) (t : Fin cfg3.N) (k : Fin 16) (r : Fin 216) (l : Fin 128) :
    iblk V c 0 t (ix4 (0 : Fin 1) k r l) = V c main_arg3 (ix4 (n0 := 2) (n1 := 1024)
      ⟨t.val / 64, by have := lt_of_lt_of_eq t.isLt (show cfg3.N = 128 by rfl); omega⟩
      ⟨16 * (t.val % 64) + k.val, by omega⟩ r l) := by
  obtain ⟨e0, e1, e2, e3⟩ := idx0 t
  show V c main_arg3 (((cfg3.win 0).blk t).view.emb (ix4 (0 : Fin 1) k r l)) = _
  refine congrArg (V c main_arg3) ?_
  funext a; apply Fin.ext
  match a with
  | ⟨0, _⟩ => show win3_0.index t (0 : Fin 4) * 1 + 1 * 0 = t.val / 64; omega
  | ⟨1, _⟩ => show win3_0.index t (1 : Fin 4) * 16 + 1 * k.val = 16 * (t.val % 64) + k.val; omega
  | ⟨2, _⟩ => show win3_0.index t (2 : Fin 4) * 216 + 1 * r.val = r.val; omega
  | ⟨3, _⟩ => show win3_0.index t (3 : Fin 4) * 128 + 1 * l.val = l.val; omega

/-- The weight codes a point finds: all of them. -/
theorem iblk1_eq (c : Dev nD) (t : Fin cfg3.N) : iblk V c 1 t = V c main_arg5 := by
  obtain ⟨e0, e1, e2⟩ := idx1 t
  funext j; show V c main_arg5 (((cfg3.win 1).blk t).view.emb j) = V c main_arg5 j
  refine congrArg (V c main_arg5) ?_
  funext a; apply Fin.ext
  match a with
  | ⟨0, _⟩ => show win3_1.index t (0 : Fin 3) * 27 + 1 * (j 0).val = (j 0).val; omega
  | ⟨1, _⟩ => show win3_1.index t (1 : Fin 3) * 32 + 1 * (j 1).val = (j 1).val; omega
  | ⟨2, _⟩ => show win3_1.index t (2 : Fin 3) * 64 + 1 * (j 2).val = (j 2).val; omega

/-- The weight scales a point finds: all of them. -/
theorem iblk2_eq (c : Dev nD) (t : Fin cfg3.N) : iblk V c 2 t = V c main_arg6 := by
  obtain ⟨e0, e1⟩ := idx2 t
  funext j; show V c main_arg6 (((cfg3.win 2).blk t).view.emb j) = V c main_arg6 j
  refine congrArg (V c main_arg6) ?_
  funext a; apply Fin.ext
  match a with
  | ⟨0, _⟩ => show win3_2.index t (0 : Fin 2) * 27 + 1 * (j 0).val = (j 0).val; omega
  | ⟨1, _⟩ => show win3_2.index t (1 : Fin 2) * 64 + 1 * (j 1).val = (j 1).val; omega

/-- The scale a point finds. -/
theorem iblk3_eq (c : Dev nD) (t : Fin cfg3.N) : iblk V c 3 t = V c main_arg4 := by
  have e0 := idx3 t
  funext j; show V c main_arg4 (((cfg3.win 3).blk t).view.emb j) = V c main_arg4 j
  refine congrArg (V c main_arg4) ?_
  funext a; apply Fin.ext
  match a with
  | ⟨0, _⟩ => show win3_3.index t (0 : Fin 1) * 1 + 1 * (j 0).val = (j 0).val; omega

/-- The bias column a point finds: all of it. -/
theorem iblk4_eq (c : Dev nD) (t : Fin cfg3.N) : iblk V c 4 t = V c main_v6 := by
  obtain ⟨e0, e1⟩ := idx4 t
  funext j; show V c main_v6 (((cfg3.win 4).blk t).view.emb j) = V c main_v6 j
  refine congrArg (V c main_v6) ?_
  funext a; apply Fin.ext
  match a with
  | ⟨0, _⟩ => show win3_4.index t (0 : Fin 2) * 64 + 1 * (j 0).val = (j 0).val; omega
  | ⟨1, _⟩ => show win3_4.index t (1 : Fin 2) * 1 + 1 * (j 1).val = (j 1).val; omega

/-- The call's body is the first call's. -/
theorem body_eq (i : grid0.Coords) (arg2 : Memref sig .tc .vmem S1x16x216x128 .i32) (harg2 : arg2.IsWhole)
    (arg3 : Memref sig .tc .vmem S27x32x64 .fp8e4m3) (harg3 : arg3.IsWhole) (arg4 : Memref sig .tc .vmem S27x64 .f32) (harg4 : arg4.IsWhole)
    (arg5 : Memref sig .tc .smem S1 .f32) (harg5 : arg5.IsWhole) (arg6 : Memref sig .tc .vmem S64x1 .f32) (harg6 : arg6.IsWhole)
    (arg7 : Memref sig .tc .hbm S8x64x131072 .f32) (harg7 : arg7.IsWhole)
    (arg8 : Memref sig .tc .vmem S1x64x2048 .f32) (harg8 : arg8.IsWhole) (arg9 : Memref sig .tc .vmem S64x864 .bf16) (harg9 : arg9.IsWhole) :
    (cc3_conv_matmul i arg2 harg2 arg3 harg3 arg4 harg4 arg5 harg5 arg6 harg6 arg7 harg7 arg8 harg8 arg9 harg9 : Prog (TpuEff nD τ sig (Elt F) Λ₀ .tc) PUnit)
      = cc0_conv_matmul i arg2 harg2 arg3 harg3 arg4 harg4 arg5 harg5 arg6 harg6 arg8 harg8 arg9 harg9 := rfl

/-- The body at any point, from what it is called with to what it returns. -/
theorem sound (c : Dev nD) (t : Fin cfg3.N) :
    iprop((dat V c).Φ t.castSucc ∗ (dat V c).owesAt () t.castSucc
      ∗ (∃ d, owns (c : Thread nD τ) (st3_0 t) fullShare ((dat V c).before 0 t d))
      ∗ (∃ d, owns (c : Thread nD τ) (st3_1 t) fullShare ((dat V c).before 1 t d))
      ∗ (∃ d, owns (c : Thread nD τ) (st3_2 t) fullShare ((dat V c).before 2 t d))
      ∗ (∃ d, owns (c : Thread nD τ) (st3_3 t) fullShare ((dat V c).before 3 t d))
      ∗ (∃ d, owns (c : Thread nD τ) (st3_4 t) fullShare ((dat V c).before 4 t d))
      ∗ (∃ d, owns (c : Thread nD τ) (st3_5 t) fullShare ((dat V c).before 5 t d)))
      ⊢ wp frame (wpE (defs₀ (F := F)) Variants.none c none) Set.univ (bodyAt3 t) (fun _ =>
        iprop((dat V c).Φ t.succ ∗ (dat V c).owesAt () t.succ
          ∗ owns (c : Thread nD τ) (st3_0 t) fullShare ((dat V c).after 0 t)
          ∗ owns (c : Thread nD τ) (st3_1 t) fullShare ((dat V c).after 1 t)
          ∗ owns (c : Thread nD τ) (st3_2 t) fullShare ((dat V c).after 2 t)
          ∗ owns (c : Thread nD τ) (st3_3 t) fullShare ((dat V c).after 3 t)
          ∗ owns (c : Thread nD τ) (st3_4 t) fullShare ((dat V c).after 4 t)
          ∗ owns (c : Thread nD τ) (st3_5 t) fullShare ((dat V c).after 5 t))) := by
  unfold bodyAt3
  rw [body_eq]
  simp only [before0, before1, before2, before3, before4]
  rw [show (dat V c).owesAt () t.succ = (dat V c).owesAt () t.castSucc from rfl,
    show (dat V c).Φ t.castSucc = carry c (Memref.whole cc3_scratch0) (wt V c) (rest c) t.val from rfl,
    show (dat V c).Φ t.succ = carry c (Memref.whole cc3_scratch0) (wt V c) (rest c) (t.val + 1) from rfl,
    after0, after1, after2, after3, after4, after5, iblk1_eq, iblk2_eq]
  exact point c (grid3.coords t) _ _ _ _ _ _ _ _ _ _ _ _ _ _ t.val (cond_iff t) (rest c) _ (iblk V c 0 t) (V c main_arg5) (V c main_arg6) (iblk V c 3 t) (iblk V c 4 t) _

/-- The library's body obligation, at every point. -/
theorem body_obligation (c : Dev nD) : BodyObligation (dat V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  exact triple_restated (sound V c t) rfl .rfl fun _ => .rfl

/-- What the call is entered with gives what its first point needs, -/
theorem hin (c : Dev nD) : iprop(Pipeline.scopedRest spec3 c ∗ ∃ r, prngReg c r) ⊢ (dat V c).Φ 0 := by
  rw [show (dat V c).Φ 0 = carry c (Memref.whole cc3_scratch0) (wt V c) (rest c) 0 from rfl, carry_zero, scopedRest3_split]
  simp only [owns_whole]
  iintro ⟨⟨HS, HB⟩, Hg⟩
  isplitl [HS]; · iexact HS
  isplitl [HB]; · iexact HB
  iexact Hg

/-- and what its last point leaves gives it back. -/
theorem hout (c : Dev nD) : (dat V c).Φ (Fin.last cfg3.N) ⊢ iprop(Pipeline.scopedRest spec3 c ∗ ∃ r, prngReg c r) := by
  rw [show (dat V c).Φ (Fin.last cfg3.N) = carry c (Memref.whole cc3_scratch0) (wt V c) (rest c) 128 from rfl,
    carry_pos _ _ _ _ _ (by decide), scopedRest3_split]
  simp only [owns_whole]
  iintro ⟨HS, HB, Hg⟩
  isplitl [HS HB]
  · isplitl [HS]; · iexists _; iexact HS
    iexact HB
  iexact Hg

/-- What a point writes back. -/
theorem flushed_eq (c : Dev nD) (t : Fin cfg3.N) :
    (dat V c).flushed 5 t = outBlk (iblk V c 0 t) (V c main_arg4) (V c main_v6) (wt V c) := by
  show (cfg3.win 5).cut (grid3.coords t) ((dat V c).after 5 t) = _
  rw [after5, iblk3_eq, iblk4_eq]; rfl

/-- Where an element of a point's result block sits in the array. -/
theorem emb5 (t : Fin cfg3.N) (z : Fin 1) (o : Fin 64) (l : Fin 2048) :
    ((cfg3.win 5).blk t).view.emb (ix3 z o l) = ix3 (n0 := 8) (n1 := 64) (n2 := 131072)
      ⟨6 + t.val / 64, by have := lt_of_lt_of_eq t.isLt (show cfg3.N = 128 by rfl); omega⟩ o
      ⟨2048 * (t.val % 64) + l.val, by omega⟩ := by
  obtain ⟨e0, e1, e2⟩ := idx5 t
  funext a; apply Fin.ext
  match a with
  | ⟨0, _⟩ => show win3_5.index t (0 : Fin 3) * 1 + 1 * z.val = 6 + t.val / 64; omega
  | ⟨1, _⟩ => show win3_5.index t (1 : Fin 3) * 64 + 1 * o.val = o.val; omega
  | ⟨2, _⟩ => show win3_5.index t (2 : Fin 3) * 2048 + 1 * l.val = 2048 * (t.val % 64) + l.val; omega

/-- Two points' result blocks do not meet. -/
theorem disjoint5 : ∀ t t' : Fin cfg3.N, (cfg3.win 5).flush t = true → (cfg3.win 5).flush t' = true → t ≠ t' →
    Disjoint ((cfg3.win 5).blk t).view.set ((cfg3.win 5).blk t').view.set :=
  fun t t' _ _ hne => (cfg3.win 5).disjoint_blk fun h => hne (by
    have h : win3_5.index t = win3_5.index t' := h
    obtain ⟨a0, a1, a2⟩ := idx5 t
    obtain ⟨b0, b1, b2⟩ := idx5 t'
    rw [h] at a0 a2
    exact Fin.ext (by omega))

end Cert.Conv.R3

namespace Cert.Conv.R3

open Cert.Conv Cert.KernelIdeal Cert.KernelIdeal.Gen Idealize.ShloMosaic Idealize.ShloMosaic.ValueIdx Idealize.ShloMosaic.TcCoe

variable (V : Dev nD → Valuation τ sig (Elt Ideal))

/-- The block a point leaves is the convolution of its sites. -/
theorem block_apply (c : Dev nD) (t : Fin cfg3.N) (o : Fin 64) (l : Fin 2048) :
    blkAt (iblk V c 0 t) (V c main_arg4) (V c main_v6) (wt V c) (ix3 (0 : Fin 1) o l)
      = conv (B := 2) (V c main_arg3) (V c main_arg4 (ix1 0)) (V c main_arg5) (V c main_arg6) (V c main_v6 (ix2 o 0))
          ⟨t.val / 64, by have := lt_of_lt_of_eq t.isLt (show cfg3.N = 128 by rfl); omega⟩ ⟨2048 * (t.val % 64) + l.val, by omega⟩ o := by
  unfold blkAt conv
  refine congr (congr (congrArg₂ affineDot (funext fun q => weights_apply _ _ o q) ?_) rfl) rfl
  refine congrArg chan (funext fun r => ?_)
  refine (iblk0_apply V c t _ r _).trans ?_
  exact congrArg₂ (fun a b => V c main_arg3 (ix4 (n0 := 2) _ a r b))
    (Fin.ext (by show 16 * (t.val % 64) + l.val / 128 = (2048 * (t.val % 64) + l.val) / 128; omega))
    (Fin.ext (by show l.val % 128 = (2048 * (t.val % 64) + l.val) % 128; omega))

/-- The result array after the call: scenes 6 and 7 are the convolution of the call's words, the others are as found. -/
theorem final_eq (c : Dev nD) : (dat V c).arrAt 5 cfg3.N
    = result 6 (V c main_arg3) (V c main_arg4) (V c main_arg5) (V c main_arg6) (V c main_v6) (V c main_v7) := by
  funext i
  obtain ⟨s, o, n, rfl⟩ : ∃ (s : Fin 8) (o : Fin 64) (n : Fin 131072), i = ix3 s o n := ⟨i 0, i 1, i 2, eq_ix3 i⟩
  by_cases h : 6 ≤ s.val ∧ s.val < 6 + 2
  · have ht : 64 * (s.val - 6) + n.val / 2048 < 128 := by omega
    have e := emb5 ⟨64 * (s.val - 6) + n.val / 2048, ht⟩ 0 o ⟨n.val % 2048, Nat.mod_lt _ (by decide)⟩
    have e' : ((cfg3.win 5).blk ⟨64 * (s.val - 6) + n.val / 2048, ht⟩).view.emb (ix3 (0 : Fin 1) o (⟨n.val % 2048, Nat.mod_lt _ (by decide)⟩ : Fin 2048)) = ix3 s o n :=
      e.trans (congrArg₂ (fun a b => ix3 a o b) (Fin.ext (by show 6 + _ / 64 = s.val; dsimp only; omega))
        (Fin.ext (by show 2048 * (_ % 64) + n.val % 2048 = n.val; dsimp only; omega)))
    rw [← e']
    rw [(dat V c).arrAt_emb_eq_flushed 5 disjoint5 _ (flush3_5 _), flushed_eq, outBlk_eq, e']
    refine (block_apply V c _ o _).trans ?_
    unfold result
    rw [dif_pos (show 6 ≤ ((ix3 s o n : S8x64x131072.Idx) 0).val ∧ ((ix3 s o n : S8x64x131072.Idx) 0).val < 6 + 2 from h)]
    exact congrArg₂ (fun a b => conv _ _ _ _ _ a b o) (Fin.ext (by show (64 * (s.val - 6) + n.val / 2048) / 64 = s.val - 6; omega))
      (Fin.ext (by show 2048 * ((64 * (s.val - 6) + n.val / 2048) % 64) + n.val % 2048 = n.val; omega))
  · rw [(dat V c).arrAt_apply_of_forall_not_mem 5 cfg3.N (ix3 s o n) ?_, A_eq]
    · unfold result
      rw [dif_neg h]
    · intro t _ _ hm
      obtain ⟨j, hj⟩ := View.exists_emb_of_mem_set _ hm
      obtain ⟨z, o', l, rfl⟩ : ∃ (z : Fin 1) (o' : Fin 64) (l : Fin 2048), j = ix3 z o' l := ⟨j 0, j 1, j 2, eq_ix3 j⟩
      have e0 := congrArg Fin.val (congrFun ((emb5 t z o' l).symm.trans hj) 0)
      have e1 : 6 + t.val / 64 = s.val := e0
      have := lt_of_lt_of_eq t.isLt (show cfg3.N = 128 by rfl)
      omega

end Cert.Conv.R3
-- ==== Proof.Run.lean ====
module

public import proofs.«01_k».proof.Proof.Region0
public import proofs.«01_k».proof.Proof.Region1
public import proofs.«01_k».proof.Proof.Region2
public import proofs.«01_k».proof.Proof.Region3
public import Idealize.ShloMosaic.Lib.Pipeline.RegionArraysS

@[expose] public section

set_option maxRecDepth 16384

noncomputable section

namespace Cert.Conv

open Cert.KernelIdeal Cert.KernelIdeal.Gen Idealize.ShloMosaic Idealize.ShloMosaic.ValueIdx Idealize.ShloMosaic.TcCoe
open Idealize.ShloMosaic.Pipeline (Dat Seg HostSeg RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffers between the items of @main: a stretch of host operations, a call, a stretch, a call, … -/

/-- Core `c`'s buffers at launch. -/
def U0 (c : Dev nD) : Valuation τ sig (Elt F) := fun b => m (c, b)
/-- … after the host operations `hostOps0`. -/
def U1 (c : Dev nD) : Valuation τ sig (Elt F) := StableHlo.after hostOps0 (U0 m c)
/-- … after call 0. -/
def U2 (c : Dev nD) : Valuation τ sig (Elt F) := Pipeline.afterRegion (R0.dat (U1 m) c) (U1 m c)
/-- … after the host operations `hostOps1`. -/
def U3 (c : Dev nD) : Valuation τ sig (Elt F) := StableHlo.after hostOps1 (U2 m c)
/-- … after call 1. -/
def U4 (c : Dev nD) : Valuation τ sig (Elt F) := Pipeline.afterRegion (R1.dat (U3 m) c) (U3 m c)
/-- … after the host operations `hostOps2`. -/
def U5 (c : Dev nD) : Valuation τ sig (Elt F) := StableHlo.after hostOps2 (U4 m c)
/-- … after call 2. -/
def U6 (c : Dev nD) : Valuation τ sig (Elt F) := Pipeline.afterRegion (R2.dat (U5 m) c) (U5 m c)
/-- … after the host operations `hostOps3`. -/
def U7 (c : Dev nD) : Valuation τ sig (Elt F) := StableHlo.after hostOps3 (U6 m c)
/-- … after call 3. -/
def U8 (c : Dev nD) : Valuation τ sig (Elt F) := Pipeline.afterRegion (R3.dat (U7 m) c) (U7 m c)
/-- … after the host operations `hostOps4`. -/
def U9 (c : Dev nD) : Valuation τ sig (Elt F) := StableHlo.after hostOps4 (U8 m c)

/-- The calls' proof data, each entered with the buffers as the items before it left them. -/
def pdats (p : Fin 4) (c : Dev nD) : Dat τ (Elt F) Unit ℕ (UR sig nD τ) ℕ (cfgs p) c :=
  match p with
  | ⟨0, _⟩ => R0.dat (U1 m) c
  | ⟨1, _⟩ => R1.dat (U3 m) c
  | ⟨2, _⟩ => R2.dat (U5 m) c
  | ⟨3, _⟩ => R3.dat (U7 m) c
  | ⟨_ + 4, h⟩ => absurd h (Nat.not_lt.2 (Nat.le_add_left _ _))

/-- One level, for the TensorCores' cells. -/
abbrev L : GSem nD τ sig → Finset Unit := fun g => if g.1.2 = .tc then {()} else ∅
abbrev lv : GSem nD τ sig → Unit → ℕ := fun _ _ => 0

/-- What rides beside the buffers from item to item: the core owes nothing, and its generator register. -/
abbrev ride (c : Dev nD) : sProp 𝕄 :=
  iprop((∃ W, owes (c : Thread nD τ) (0 : CellTallies nD τ sig Unit) W) ∗ (∃ r, prngReg c r) ∗ emp)

/-- The generator register at some state. -/
abbrev gen (c : Dev nD) : sProp 𝕄 := iprop(∃ r, prngReg c r)

set_option backward.isDefEq.respectTransparency.types false in
/-- Call 0 as a segment of @main. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) gen gen
    launch0.toP rfl (fun c => (R0.body_obligation (U1 m) c).loose) (fun _ _ => rfl) (fun _ => rfl)
    (fun c => (R0.dat (U1 m) c).share_full fun _ => rfl) (R0.hin (U1 m)) (R0.hout (U1 m)) (fun _ => 0)
    ⟨fun _ _ _ => Finset.mem_singleton_self (), fun _ _ _ => le_refl 0, fun _ _ _ h => absurd h (lt_irrefl 0)⟩
    (fun _ => iprop(emp)) (U1 m) (fun c w => (R0.A_eq (U1 m) c w))

theorem reg0_sub : Pipeline.arrRefs (τ := τ) (pcfgs (F := F) 0).spec ⊆ Pipeline.ucRefs τ sig :=
  Pipeline.arrRefs_sub_ucRefs spec0 (by decide)

set_option backward.isDefEq.respectTransparency.types false in
/-- Call 1 as a segment of @main. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) gen gen
    launch1.toP rfl (fun c => (R1.body_obligation (U3 m) c).loose) (fun _ _ => rfl) (fun _ => rfl)
    (fun c => (R1.dat (U3 m) c).share_full fun _ => rfl) (R1.hin (U3 m)) (R1.hout (U3 m)) (fun _ => 0)
    ⟨fun _ _ _ => Finset.mem_singleton_self (), fun _ _ _ => le_refl 0, fun _ _ _ h => absurd h (lt_irrefl 0)⟩
    (fun _ => iprop(emp)) (U3 m) (fun c w => (R1.A_eq (U3 m) c w))

theorem reg1_sub : Pipeline.arrRefs (τ := τ) (pcfgs (F := F) 1).spec ⊆ Pipeline.ucRefs τ sig :=
  Pipeline.arrRefs_sub_ucRefs spec1 (by decide)

set_option backward.isDefEq.respectTransparency.types false in
/-- Call 2 as a segment of @main. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig) gen gen
    launch2.toP rfl (fun c => (R2.body_obligation (U5 m) c).loose) (fun _ _ => rfl) (fun _ => rfl)
    (fun c => (R2.dat (U5 m) c).share_full fun _ => rfl) (R2.hin (U5 m)) (R2.hout (U5 m)) (fun _ => 0)
    ⟨fun _ _ _ => Finset.mem_singleton_self (), fun _ _ _ => le_refl 0, fun _ _ _ h => absurd h (lt_irrefl 0)⟩
    (fun _ => iprop(emp)) (U5 m) (fun c w => (R2.A_eq (U5 m) c w))

theorem reg2_sub : Pipeline.arrRefs (τ := τ) (pcfgs (F := F) 2).spec ⊆ Pipeline.ucRefs τ sig :=
  Pipeline.arrRefs_sub_ucRefs spec2 (by decide)

set_option backward.isDefEq.respectTransparency.types false in
/-- Call 3 as a segment of @main. -/
def reg3 : RegionSeg (pcfgs (F := F)) adm (pdats m) () defs₀ Variants.none L lv 3 :=
  RegionSeg.ofHeldIn (pcfgs (F := F)) adm (pdats m) () defs₀ Variants.none L lv 3 (fun _ => 0) (Pipeline.ucRefs τ sig) gen gen
    launch3.toP rfl (fun c => (R3.body_obligation (U7 m) c).loose) (fun _ _ => rfl) (fun _ => rfl)
    (fun c => (R3.dat (U7 m) c).share_full fun _ => rfl) (R3.hin (U7 m)) (R3.hout (U7 m)) (fun _ => 0)
    ⟨fun _ _ _ => Finset.mem_singleton_self (), fun _ _ _ => le_refl 0, fun _ _ _ h => absurd h (lt_irrefl 0)⟩
    (fun _ => iprop(emp)) (U7 m) (fun c w => (R3.A_eq (U7 m) c w))

theorem reg3_sub : Pipeline.arrRefs (τ := τ) (pcfgs (F := F) 3).spec ⊆ Pipeline.ucRefs τ sig :=
  Pipeline.arrRefs_sub_ucRefs spec3 (by decide)

/-- It is entered with the buffers at `U1`, -/
theorem reg0_pre (c : Dev nD) :
    iprop(StableHlo.held (c : Thread nD τ) (Pipeline.ucRefs τ sig) (U1 m c) ∗ ride c) ⊢ (reg0 m).pre c := by
  unfold reg0
  exact RegionSeg.ofHeldIn_pre (D := fun _ => 0) (X := gen) (Y := gen) (R := fun _ => iprop(emp)) (W := U1 m) reg0_sub c

/-- and left with them at `U2`. -/
theorem reg0_post (c : Dev nD) :
    (reg0 m).post c ⊢ iprop(StableHlo.held (c : Thread nD τ) (Pipeline.ucRefs τ sig) (U2 m c) ∗ ride c) := by
  have e : Pipeline.afterRegion (cfg := Pipeline.pin (pcfgs (F := F)) adm 0) (pdats m 0 c) (U1 m c) = U2 m c := rfl
  rw [← e]
  unfold reg0; exact RegionSeg.ofHeldIn_post reg0_sub c

/-- It is entered with the buffers at `U3`, -/
theorem reg1_pre (c : Dev nD) :
    iprop(StableHlo.held (c : Thread nD τ) (Pipeline.ucRefs τ sig) (U3 m c) ∗ ride c) ⊢ (reg1 m).pre c := by
  unfold reg1
  exact RegionSeg.ofHeldIn_pre (D := fun _ => 0) (X := gen) (Y := gen) (R := fun _ => iprop(emp)) (W := U3 m) reg1_sub c

/-- and left with them at `U4`. -/
theorem reg1_post (c : Dev nD) :
    (reg1 m).post c ⊢ iprop(StableHlo.held (c : Thread nD τ) (Pipeline.ucRefs τ sig) (U4 m c) ∗ ride c) := by
  have e : Pipeline.afterRegion (cfg := Pipeline.pin (pcfgs (F := F)) adm 1) (pdats m 1 c) (U3 m c) = U4 m c := rfl
  rw [← e]
  unfold reg1; exact RegionSeg.ofHeldIn_post reg1_sub c

/-- It is entered with the buffers at `U5`, -/
theorem reg2_pre (c : Dev nD) :
    iprop(StableHlo.held (c : Thread nD τ) (Pipeline.ucRefs τ sig) (U5 m c) ∗ ride c) ⊢ (reg2 m).pre c := by
  unfold reg2
  exact RegionSeg.ofHeldIn_pre (D := fun _ => 0) (X := gen) (Y := gen) (R := fun _ => iprop(emp)) (W := U5 m) reg2_sub c

/-- and left with them at `U6`. -/
theorem reg2_post (c : Dev nD) :
    (reg2 m).post c ⊢ iprop(StableHlo.held (c : Thread nD τ) (Pipeline.ucRefs τ sig) (U6 m c) ∗ ride c) := by
  have e : Pipeline.afterRegion (cfg := Pipeline.pin (pcfgs (F := F)) adm 2) (pdats m 2 c) (U5 m c) = U6 m c := rfl
  rw [← e]
  unfold reg2; exact RegionSeg.ofHeldIn_post reg2_sub c

/-- It is entered with the buffers at `U7`, -/
theorem reg3_pre (c : Dev nD) :
    iprop(StableHlo.held (c : Thread nD τ) (Pipeline.ucRefs τ sig) (U7 m c) ∗ ride c) ⊢ (reg3 m).pre c := by
  unfold reg3
  exact RegionSeg.ofHeldIn_pre (D := fun _ => 0) (X := gen) (Y := gen) (R := fun _ => iprop(emp)) (W := U7 m) reg3_sub c

/-- and left with them at `U8`. -/
theorem reg3_post (c : Dev nD) :
    (reg3 m).post c ⊢ iprop(StableHlo.held (c : Thread nD τ) (Pipeline.ucRefs τ sig) (U8 m c) ∗ ride c) := by
  have e : Pipeline.afterRegion (cfg := Pipeline.pin (pcfgs (F := F)) adm 3) (pdats m 3 c) (U7 m c) = U8 m c := rfl
  rw [← e]
  unfold reg3; exact RegionSeg.ofHeldIn_post reg3_sub c

/-- The host operations `hostOps0` as a segment of @main. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) ride
/-- The host operations `hostOps1` as a segment of @main. -/
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) ride
/-- The host operations `hostOps2` as a segment of @main. -/
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) ride
/-- The host operations `hostOps3` as a segment of @main. -/
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U6 m) ride
/-- The host operations `hostOps4` as a segment of @main. -/
def host4 : HostSeg (Ix := Unit) (Name := ℕ) (U := UR sig nD τ) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (U8 m) ride

/-- @main's items. -/
abbrev items (c : Dev nD) : List (Seg (pcfgs (F := F)) adm (pdats m) () defs₀ Variants.none L lv) :=
  [.host (host0 m), .region (reg0 m), .host (host1 m), .region (reg1 m), .host (host2 m), .region (reg2 m), .host (host3 m), .region (reg3 m),
    .host (host4 m)]

set_option backward.isDefEq.respectTransparency.types false in
set_option maxHeartbeats 1000000 in
/-- Every run of @main from any memory with zero counters ends, with every buffer that outlives the calls as `U9` says and every counter zero. -/
theorem run_chain : θ_run defs (onTc (τ := τ) (main (F := F))) ⟨m, fun _ => 0, ρ⟩ (fun r =>
    (∀ c : Dev nD, ∀ b ∈ Pipeline.ucRefs τ sig, r.2.mem ((c : Thread nD τ).1, b) = U9 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, Seg.pipes_host, Seg.pipes_region, Seg.pipes_nil]; decide) 0
    (fun g h => if_neg h) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ ride c))
    (Tₙ := fun c => StableHlo.held (c : Thread nD τ) (Pipeline.ucRefs τ sig) (U9 m c))
    (hch := fun c => ⟨.rfl, reg0_pre m c, reg0_post m c, reg1_pre m c, reg1_post m c, reg2_pre m c, reg2_post m c, reg3_pre m c, reg3_post m c,
      ?_⟩)
    (hinit := ?_) (QY := fun c s => ∀ b ∈ Pipeline.ucRefs τ sig, s.mem ((c : Thread nD τ).1, b) = U9 m c b)
    (hfin := fun c s' => ?_) (hQ := fun _ h hz => ⟨h, funext fun g => hz g (.inr (regions_no_unscoped g.2))⟩)
  · show iprop(StableHlo.held (c : Thread nD τ) (Pipeline.ucRefs τ sig) (U9 m c) ∗ ride c) ⊢ _
    iintro ⟨Hh, HO, -, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (U0 m c)
        from Pipeline.unscopedBufs_held (Ix := Unit) (Name := ℕ) (U := UR sig nD τ) (Lvl := ℕ) c (U0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (U9 m c) s') $$ [Hh HSI]
    · isplitl [Hh] <;> iassumption
    imodintro; iexact Hr

/-! What no item writes stays. -/

/-- Call 0 changes only its result array. -/
theorem U2_of (c : Dev nD) (r : Ref sig .tc) (h : r ≠ main_v1) : U2 m c r = U1 m c r :=
  Pipeline.afterRegion_keeps (R0.dat (U1 m) c) (U1 m c) winFacts0.arr_inj (R0.A_eq (U1 m) c) r fun w hw =>
    match w, hw with
    | ⟨0, _⟩, _ => rfl | ⟨1, _⟩, _ => rfl | ⟨2, _⟩, _ => rfl | ⟨3, _⟩, _ => rfl | ⟨4, _⟩, _ => rfl
    | ⟨5, _⟩, hw => absurd hw.symm h
    | ⟨_ + 6, hlt⟩, _ => absurd hlt (Nat.not_lt.2 (Nat.le_add_left _ _))

/-- Call 0 leaves its result array at what its proof data say. -/
theorem U2_out (c : Dev nD) : U2 m c main_v1 = (R0.dat (U1 m) c).arrAt 5 cfg0.N :=
  Pipeline.afterRegion_arr (R0.dat (U1 m) c) (U1 m c) winFacts0.arr_inj 5

/-- Call 1 changes only its result array. -/
theorem U4_of (c : Dev nD) (r : Ref sig .tc) (h : r ≠ main_v3) : U4 m c r = U3 m c r :=
  Pipeline.afterRegion_keeps (R1.dat (U3 m) c) (U3 m c) winFacts1.arr_inj (R1.A_eq (U3 m) c) r fun w hw =>
    match w, hw with
    | ⟨0, _⟩, _ => rfl | ⟨1, _⟩, _ => rfl | ⟨2, _⟩, _ => rfl | ⟨3, _⟩, _ => rfl | ⟨4, _⟩, _ => rfl
    | ⟨5, _⟩, hw => absurd hw.symm h
    | ⟨_ + 6, hlt⟩, _ => absurd hlt (Nat.not_lt.2 (Nat.le_add_left _ _))

/-- Call 1 leaves its result array at what its proof data say. -/
theorem U4_out (c : Dev nD) : U4 m c main_v3 = (R1.dat (U3 m) c).arrAt 5 cfg1.N :=
  Pipeline.afterRegion_arr (R1.dat (U3 m) c) (U3 m c) winFacts1.arr_inj 5

/-- Call 2 changes only its result array. -/
theorem U6_of (c : Dev nD) (r : Ref sig .tc) (h : r ≠ main_v5) : U6 m c r = U5 m c r :=
  Pipeline.afterRegion_keeps (R2.dat (U5 m) c) (U5 m c) winFacts2.arr_inj (R2.A_eq (U5 m) c) r fun w hw =>
    match w, hw with
    | ⟨0, _⟩, _ => rfl | ⟨1, _⟩, _ => rfl | ⟨2, _⟩, _ => rfl | ⟨3, _⟩, _ => rfl | ⟨4, _⟩, _ => rfl
    | ⟨5, _⟩, hw => absurd hw.symm h
    | ⟨_ + 6, hlt⟩, _ => absurd hlt (Nat.not_lt.2 (Nat.le_add_left _ _))

/-- Call 2 leaves its result array at what its proof data say. -/
theorem U6_out (c : Dev nD) : U6 m c main_v5 = (R2.dat (U5 m) c).arrAt 5 cfg2.N :=
  Pipeline.afterRegion_arr (R2.dat (U5 m) c) (U5 m c) winFacts2.arr_inj 5

/-- Call 3 changes only its result array. -/
theorem U8_of (c : Dev nD) (r : Ref sig .tc) (h : r ≠ main_v7) : U8 m c r = U7 m c r :=
  Pipeline.afterRegion_keeps (R3.dat (U7 m) c) (U7 m c) winFacts3.arr_inj (R3.A_eq (U7 m) c) r fun w hw =>
    match w, hw with
    | ⟨0, _⟩, _ => rfl | ⟨1, _⟩, _ => rfl | ⟨2, _⟩, _ => rfl | ⟨3, _⟩, _ => rfl | ⟨4, _⟩, _ => rfl
    | ⟨5, _⟩, hw => absurd hw.symm h
    | ⟨_ + 6, hlt⟩, _ => absurd hlt (Nat.not_lt.2 (Nat.le_add_left _ _))

/-- Call 3 leaves its result array at what its proof data say. -/
theorem U8_out (c : Dev nD) : U8 m c main_v7 = (R3.dat (U7 m) c).arrAt 5 cfg3.N :=
  Pipeline.afterRegion_arr (R3.dat (U7 m) c) (U7 m c) winFacts3.arr_inj 5

theorem U1_of (c : Dev nD) (r : Ref sig .tc) (h : r ∉ hostOps0_W) : U1 m c r = U0 m c r :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h
theorem U7_of (c : Dev nD) (r : Ref sig .tc) (h : r ∉ hostOps3_W) : U7 m c r = U6 m c r :=
  StableHlo.after_of_writes_sub hostOps3 _ hostOps3_writes h
theorem U9_of (c : Dev nD) (r : Ref sig .tc) (h : r ∉ hostOps4_W) : U9 m c r = U8 m c r :=
  StableHlo.after_of_writes_sub hostOps4 _ hostOps4_writes h

/-- @main's arguments. -/
abbrev args : List (Ref sig .tc) := [main_arg0, main_arg1, main_arg2, main_arg3, main_arg4, main_arg5, main_arg6, main_arg7]

/-- An argument reaches each point of @main as launched. -/
theorem U1_arg (c : Dev nD) (r : Ref sig .tc) (h : r ∈ args) :
    U1 m c r = m ((c : Thread nD τ).loc r) :=
  U1_of m c r (by simp only [args, List.mem_cons, List.not_mem_nil, or_false] at h; rcases h with rfl | rfl | rfl | rfl | rfl | rfl | rfl | rfl <;> decide)
theorem U2_arg (c : Dev nD) (r : Ref sig .tc) (h : r ∈ args) :
    U2 m c r = m ((c : Thread nD τ).loc r) :=
  (U2_of m c r (by simp only [args, List.mem_cons, List.not_mem_nil, or_false] at h; rcases h with rfl | rfl | rfl | rfl | rfl | rfl | rfl | rfl <;> decide)).trans (U1_arg m c r h)
theorem U3_arg (c : Dev nD) (r : Ref sig .tc) (h : r ∈ args) :
    U3 m c r = m ((c : Thread nD τ).loc r) :=
  (U3_of m c r (by simp only [args, List.mem_cons, List.not_mem_nil, or_false] at h; rcases h with rfl | rfl | rfl | rfl | rfl | rfl | rfl | rfl <;> decide)).trans (U2_arg m c r h)
theorem U4_arg (c : Dev nD) (r : Ref sig .tc) (h : r ∈ args) :
    U4 m c r = m ((c : Thread nD τ).loc r) :=
  (U4_of m c r (by simp only [args, List.mem_cons, List.not_mem_nil, or_false] at h; rcases h with rfl | rfl | rfl | rfl | rfl | rfl | rfl | rfl <;> decide)).trans (U3_arg m c r h)
theorem U5_arg (c : Dev nD) (r : Ref sig .tc) (h : r ∈ args) :
    U5 m c r = m ((c : Thread nD τ).loc r) :=
  (U5_of m c r (by simp only [args, List.mem_cons, List.not_mem_nil, or_false] at h; rcases h with rfl | rfl | rfl | rfl | rfl | rfl | rfl | rfl <;> decide)).trans (U4_arg m c r h)
theorem U6_arg (c : Dev nD) (r : Ref sig .tc) (h : r ∈ args) :
    U6 m c r = m ((c : Thread nD τ).loc r) :=
  (U6_of m c r (by simp only [args, List.mem_cons, List.not_mem_nil, or_false] at h; rcases h with rfl | rfl | rfl | rfl | rfl | rfl | rfl | rfl <;> decide)).trans (U5_arg m c r h)
theorem U7_arg (c : Dev nD) (r : Ref sig .tc) (h : r ∈ args) :
    U7 m c r = m ((c : Thread nD τ).loc r) :=
  (U7_of m c r (by simp only [args, List.mem_cons, List.not_mem_nil, or_false] at h; rcases h with rfl | rfl | rfl | rfl | rfl | rfl | rfl | rfl <;> decide)).trans (U6_arg m c r h)
theorem U8_arg (c : Dev nD) (r : Ref sig .tc) (h : r ∈ args) :
    U8 m c r = m ((c : Thread nD τ).loc r) :=
  (U8_of m c r (by simp only [args, List.mem_cons, List.not_mem_nil, or_false] at h; rcases h with rfl | rfl | rfl | rfl | rfl | rfl | rfl | rfl <;> decide)).trans (U7_arg m c r h)
theorem U9_arg (c : Dev nD) (r : Ref sig .tc) (h : r ∈ args) :
    U9 m c r = m ((c : Thread nD τ).loc r) :=
  (U9_of m c r (by simp only [args, List.mem_cons, List.not_mem_nil, or_false] at h; rcases h with rfl | rfl | rfl | rfl | rfl | rfl | rfl | rfl <;> decide)).trans (U8_arg m c r h)

/-- THE FRAME, at any values: the run ends, the arguments are as launched, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (U9_arg m c main_arg0 (by decide)),
      (h.1 c (Proc.devRef .tc main_arg1) (Finset.mem_filter.mpr ⟨StableHlo.devRef_mem_tcRefs main_arg1, by decide⟩)).trans (U9_arg m c main_arg1 (by decide)),
      (h.1 c (Proc.devRef .tc main_arg2) (Finset.mem_filter.mpr ⟨StableHlo.devRef_mem_tcRefs main_arg2, by decide⟩)).trans (U9_arg m c main_arg2 (by decide)),
      (h.1 c (Proc.devRef .tc main_arg3) (Finset.mem_filter.mpr ⟨StableHlo.devRef_mem_tcRefs main_arg3, by decide⟩)).trans (U9_arg m c main_arg3 (by decide)),
      (h.1 c (Proc.devRef .tc main_arg4) (Finset.mem_filter.mpr ⟨StableHlo.devRef_mem_tcRefs main_arg4, by decide⟩)).trans (U9_arg m c main_arg4 (by decide)),
      (h.1 c (Proc.devRef .tc main_arg5) (Finset.mem_filter.mpr ⟨StableHlo.devRef_mem_tcRefs main_arg5, by decide⟩)).trans (U9_arg m c main_arg5 (by decide)),
      (h.1 c (Proc.devRef .tc main_arg6) (Finset.mem_filter.mpr ⟨StableHlo.devRef_mem_tcRefs main_arg6, by decide⟩)).trans (U9_arg m c main_arg6 (by decide)),
      (h.1 c (Proc.devRef .tc main_arg7) (Finset.mem_filter.mpr ⟨StableHlo.devRef_mem_tcRefs main_arg7, by decide⟩)).trans (U9_arg m c main_arg7 (by decide))⟩, h.2⟩) (run_chain m ρ)

end Cert.Conv
-- ==== Proof.Whole.lean ====
module

public import proofs.«01_k».proof.Proof.Block

@[expose] public section

noncomputable section

namespace Cert.Conv

open Cert.KernelIdeal Idealize.ShloMosaic Idealize.ShloMosaic.ValueIdx

/-- The whole result: scene `s` is the convolution of scene `s % 2` of the words' piece `s / 2`. -/
def whole (g : Fin 4 → S2x1024x216x128.Idx → BitVec 32) (xs : S1.Idx → EReal) (w : S27x32x64.Idx → EReal) (ws : S27x64.Idx → EReal)
    (bias : S64.Idx → EReal) : S8x131072x64.Idx → EReal := fun i =>
  conv (B := 2) (g ⟨(i 0).val / 2, by have h : (i 0).val < 8 := (i 0).isLt; omega⟩) (xs (ix1 0)) w ws (bias (ix1 (n := 64) (i 2)))
    ⟨(i 0).val % 2, by omega⟩ (i 1) (i 2)

/-- A scene outside the two that a call writes is as the call finds it. -/
theorem result_off (s₀ : ℕ) (g : S2x1024x216x128.Idx → BitVec 32) (xs : S1.Idx → EReal) (w : S27x32x64.Idx → EReal) (ws : S27x64.Idx → EReal)
    (col : S64x1.Idx → EReal) (y : S8x64x131072.Idx → EReal) (s : Fin 8) (o : Fin 64) (n : Fin 131072) (h : ¬ (s₀ ≤ s.val ∧ s.val < s₀ + 2)) :
    result s₀ g xs w ws col y (ix3 s o n) = y (ix3 s o n) := by
  unfold result
  rw [dif_neg (show ¬ (s₀ ≤ ((ix3 s o n : S8x64x131072.Idx) 0).val ∧ ((ix3 s o n : S8x64x131072.Idx) 0).val < s₀ + 2) from h)]

/-- A scene that call `k` writes is that scene of the whole result. -/
theorem result_on (k : Fin 4) (s₀ : ℕ) (hs₀ : s₀ = 2 * k.val) (g : Fin 4 → S2x1024x216x128.Idx → BitVec 32) (xs : S1.Idx → EReal) (w : S27x32x64.Idx → EReal)
    (ws : S27x64.Idx → EReal) (bias : S64.Idx → EReal) (col : S64x1.Idx → EReal) (hcol : ∀ o : Fin 64, col (ix2 o (0 : Fin 1)) = bias (ix1 o))
    (y : S8x64x131072.Idx → EReal) (s : Fin 8) (o : Fin 64) (n : Fin 131072) (h : s₀ ≤ s.val ∧ s.val < s₀ + 2) :
    result s₀ (g k) xs w ws col y (ix3 s o n) = whole g xs w ws bias (ix3 s n o) := by
  unfold result
  rw [dif_pos (show s₀ ≤ ((ix3 s o n : S8x64x131072.Idx) 0).val ∧ ((ix3 s o n : S8x64x131072.Idx) 0).val < s₀ + 2 from h)]
  show conv (B := 2) (g k) (xs (ix1 0)) w ws (col (ix2 o (0 : Fin 1))) (⟨s.val - s₀, by omega⟩ : Fin 2) n o
    = conv (B := 2) (g ⟨s.val / 2, by omega⟩) (xs (ix1 0)) w ws (bias (ix1 o)) (⟨s.val % 2, by omega⟩ : Fin 2) n o
  rw [hcol]
  have e1 : k = ⟨s.val / 2, by omega⟩ := Fin.ext (by show k.val = s.val / 2; omega)
  have e2 : (⟨s.val - s₀, by omega⟩ : Fin 2) = ⟨s.val % 2, by omega⟩ := Fin.ext (by show s.val - s₀ = s.val % 2; omega)
  rw [e2, ← e1]

end Cert.Conv
-- ==== Proof.Chain.lean ====
module

public import proofs.«01_k».proof.Proof.Run
public import proofs.«01_k».proof.Proof.Whole

@[expose] public section

set_option maxRecDepth 16384

noncomputable section

namespace Cert.Conv

open Cert.KernelIdeal Cert.KernelIdeal.Gen Idealize.ShloMosaic Idealize.ShloMosaic.ValueIdx Idealize.ShloMosaic.TcCoe
open Idealize.SL.Sem

section
variable {F : FTy → Type} [FloatOps F] (W : Valuation τ sig (Elt F))

/-! What each stretch of host operations writes: the bias as a column, a copy of the array the last call left, the transposed result. -/

theorem host0_col : StableHlo.after hostOps0 W (Proc.devRef .tc main_v0) = shapeCast S64x1 (W (Proc.devRef .tc main_arg7) : Vec F S64 .f32) shapeCasts_S64_S64x1 := by
  after_results <;> rfl
theorem host1_col : StableHlo.after hostOps1 W (Proc.devRef .tc main_v2) = shapeCast S64x1 (W (Proc.devRef .tc main_arg7) : Vec F S64 .f32) shapeCasts_S64_S64x1 := by
  after_results <;> rfl
theorem host1_copy : StableHlo.after hostOps1 W (Proc.devRef .tc main_v3) = W (Proc.devRef .tc main_v1) := by
  after_results <;> rfl
theorem host2_col : StableHlo.after hostOps2 W (Proc.devRef .tc main_v4) = shapeCast S64x1 (W (Proc.devRef .tc main_arg7) : Vec F S64 .f32) shapeCasts_S64_S64x1 := by
  after_results <;> rfl
theorem host2_copy : StableHlo.after hostOps2 W (Proc.devRef .tc main_v5) = W (Proc.devRef .tc main_v3) := by
  after_results <;> rfl
theorem host3_col : StableHlo.after hostOps3 W (Proc.devRef .tc main_v6) = shapeCast S64x1 (W (Proc.devRef .tc main_arg7) : Vec F S64 .f32) shapeCasts_S64_S64x1 := by
  after_results <;> rfl
theorem host3_copy : StableHlo.after hostOps3 W (Proc.devRef .tc main_v7) = W (Proc.devRef .tc main_v5) := by
  after_results <;> rfl
theorem host4_out : StableHlo.after hostOps4 W (Proc.devRef .tc main_v8)
    = transpose S8x131072x64 [0, 2, 1] (W (Proc.devRef .tc main_v7) : Vec F S8x64x131072 .f32) transposes_S8x64x131072_S8x131072x64_0_2_1 := by
  after_results <;> rfl

end

/-- A vector written as a column, one by one. -/
theorem col_apply (b : S64.Idx → EReal) (o : Fin 64) :
    shapeCast (α := EReal) S64x1 b shapeCasts_S64_S64x1 (ix2 o (0 : Fin 1)) = b (ix1 o) :=
  shapeCast_apply (s := S64) _ _ _ (ix1 o) (by rw [Shape.rowMajor_val_two, Shape.rowMajor_val_one]; show o.val = o.val * 1 + 0; omega)

variable (m : (ℓ : Loc nD τ sig) → Buf (Elt Ideal) ℓ) (c : Dev nD)

/-- The words, as launched: piece `k` holds scenes `2 k` and `2 k + 1`. -/
def words : Fin 4 → S2x1024x216x128.Idx → BitVec 32 := fun k => match k with
  | 0 => m ((c : Thread nD τ).loc main_arg0) | 1 => m ((c : Thread nD τ).loc main_arg1)
  | 2 => m ((c : Thread nD τ).loc main_arg2) | 3 => m ((c : Thread nD τ).loc main_arg3)

/-- The whole convolution of the arguments, as launched. -/
def goal : S8x131072x64.Idx → EReal :=
  whole (words m c) (m ((c : Thread nD τ).loc main_arg4)) (m ((c : Thread nD τ).loc main_arg5)) (m ((c : Thread nD τ).loc main_arg6)) (m ((c : Thread nD τ).loc main_arg7))

/-- What call 0 leaves, as a function of the arguments and of the array it finds. -/
theorem left0 : U2 m c main_v1 = result 0 (words m c 0) (m ((c : Thread nD τ).loc main_arg4)) (m ((c : Thread nD τ).loc main_arg5))
    (m ((c : Thread nD τ).loc main_arg6)) (shapeCast (α := EReal) S64x1 (m ((c : Thread nD τ).loc main_arg7)) shapeCasts_S64_S64x1) (U1 m c main_v1) := by
  have hc : U1 m c main_v0 = shapeCast (α := EReal) S64x1 (m ((c : Thread nD τ).loc main_arg7)) shapeCasts_S64_S64x1 :=
    (host0_col (U0 m c)).trans (congrArg (fun b : S64.Idx → EReal => shapeCast S64x1 b shapeCasts_S64_S64x1) rfl)
  rw [U2_out, R0.final_eq, hc, U1_arg m c main_arg0 (by simp [args]), U1_arg m c main_arg4 (by simp [args]), U1_arg m c main_arg5 (by simp [args]),
    U1_arg m c main_arg6 (by simp [args])]
  rfl

/-- What call 1 leaves, as a function of the arguments and of the array it finds. -/
theorem left1 : U4 m c main_v3 = result 2 (words m c 1) (m ((c : Thread nD τ).loc main_arg4)) (m ((c : Thread nD τ).loc main_arg5))
    (m ((c : Thread nD τ).loc main_arg6)) (shapeCast (α := EReal) S64x1 (m ((c : Thread nD τ).loc main_arg7)) shapeCasts_S64_S64x1) (U3 m c main_v3) := by
  have hc : U3 m c main_v2 = shapeCast (α := EReal) S64x1 (m ((c : Thread nD τ).loc main_arg7)) shapeCasts_S64_S64x1 :=
    (host1_col (U2 m c)).trans (congrArg (fun b : S64.Idx → EReal => shapeCast S64x1 b shapeCasts_S64_S64x1) (U2_arg m c main_arg7 (by simp [args])))
  rw [U4_out, R1.final_eq, hc, U3_arg m c main_arg1 (by simp [args]), U3_arg m c main_arg4 (by simp [args]), U3_arg m c main_arg5 (by simp [args]),
    U3_arg m c main_arg6 (by simp [args])]
  rfl

/-- What call 2 leaves, as a function of the arguments and of the array it finds. -/
theorem left2 : U6 m c main_v5 = result 4 (words m c 2) (m ((c : Thread nD τ).loc main_arg4)) (m ((c : Thread nD τ).loc main_arg5))
    (m ((c : Thread nD τ).loc main_arg6)) (shapeCast (α := EReal) S64x1 (m ((c : Thread nD τ).loc main_arg7)) shapeCasts_S64_S64x1) (U5 m c main_v5) := by
  have hc : U5 m c main_v4 = shapeCast (α := EReal) S64x1 (m ((c : Thread nD τ).loc main_arg7)) shapeCasts_S64_S64x1 :=
    (host2_col (U4 m c)).trans (congrArg (fun b : S64.Idx → EReal => shapeCast S64x1 b shapeCasts_S64_S64x1) (U4_arg m c main_arg7 (by simp [args])))
  rw [U6_out, R2.final_eq, hc, U5_arg m c main_arg2 (by simp [args]), U5_arg m c main_arg4 (by simp [args]), U5_arg m c main_arg5 (by simp [args]),
    U5_arg m c main_arg6 (by simp [args])]
  rfl

/-- What call 3 leaves, as a function of the arguments and of the array it finds. -/
theorem left3 : U8 m c main_v7 = result 6 (words m c 3) (m ((c : Thread nD τ).loc main_arg4)) (m ((c : Thread nD τ).loc main_arg5))
    (m ((c : Thread nD τ).loc main_arg6)) (shapeCast (α := EReal) S64x1 (m ((c : Thread nD τ).loc main_arg7)) shapeCasts_S64_S64x1) (U7 m c main_v7) := by
  have hc : U7 m c main_v6 = shapeCast (α := EReal) S64x1 (m ((c : Thread nD τ).loc main_arg7)) shapeCasts_S64_S64x1 :=
    (host3_col (U6 m c)).trans (congrArg (fun b : S64.Idx → EReal => shapeCast S64x1 b shapeCasts_S64_S64x1) (U6_arg m c main_arg7 (by simp [args])))
  rw [U8_out, R3.final_eq, hc, U7_arg m c main_arg3 (by simp [args]), U7_arg m c main_arg4 (by simp [args]), U7_arg m c main_arg5 (by simp [args]),
    U7_arg m c main_arg6 (by simp [args])]
  rfl

/-- After call `k` the scenes written so far are the convolution. -/
theorem upto0 (s : Fin 8) (o : Fin 64) (n : Fin 131072) (h : s.val < 2) : U2 m c main_v1 (ix3 s o n) = goal m c (ix3 s n o) := by
  rw [left0]
  exact result_on 0 0 rfl _ _ _ _ _ _ (col_apply _) _ s o n ⟨Nat.zero_le _, h⟩
theorem upto1 (s : Fin 8) (o : Fin 64) (n : Fin 131072) (h : s.val < 4) : U4 m c main_v3 (ix3 s o n) = goal m c (ix3 s n o) := by
  rw [left1]
  by_cases h' : s.val < 2
  · rw [result_off _ _ _ _ _ _ _ s o n (fun e => absurd h' (Nat.not_lt.2 e.1))]
    exact (congrFun (host1_copy (U2 m c)) _).trans (upto0 m c s o n h')
  · exact result_on 1 2 rfl _ _ _ _ _ _ (col_apply _) _ s o n ⟨Nat.not_lt.1 h', h⟩
theorem upto2 (s : Fin 8) (o : Fin 64) (n : Fin 131072) (h : s.val < 6) : U6 m c main_v5 (ix3 s o n) = goal m c (ix3 s n o) := by
  rw [left2]
  by_cases h' : s.val < 4
  · rw [result_off _ _ _ _ _ _ _ s o n (fun e => absurd h' (Nat.not_lt.2 e.1))]
    exact (congrFun (host2_copy (U4 m c)) _).trans (upto1 m c s o n h')
  · exact result_on 2 4 rfl _ _ _ _ _ _ (col_apply _) _ s o n ⟨Nat.not_lt.1 h', h⟩
theorem upto3 (s : Fin 8) (o : Fin 64) (n : Fin 131072) (h : s.val < 8) : U8 m c main_v7 (ix3 s o n) = goal m c (ix3 s n o) := by
  rw [left3]
  by_cases h' : s.val < 6
  · rw [result_off _ _ _ _ _ _ _ s o n (fun e => absurd h' (Nat.not_lt.2 e.1))]
    exact (congrFun (host3_copy (U6 m c)) _).trans (upto2 m c s o n h')
  · exact result_on 3 6 rfl _ _ _ _ _ _ (col_apply _) _ s o n ⟨Nat.not_lt.1 h', h⟩

/-- The result of the whole run is the convolution of the arguments. -/
theorem final : U9 m c main_v8 = goal m c := by
  funext i
  obtain ⟨s, n, o, rfl⟩ : ∃ (s : Fin 8) (n : Fin 131072) (o : Fin 64), i = ix3 s n o := ⟨i 0, i 1, i 2, eq_ix3 i⟩
  refine (congrFun (host4_out (U8 m c)) _).trans ?_
  refine (transpose_apply _ _ _ _ (ix3 s o n) (fun a => match a with | ⟨0, _⟩ => rfl | ⟨1, _⟩ => rfl | ⟨2, _⟩ => rfl)).trans ?_
  exact upto3 m c s o n s.isLt

/-- The idealized run: its result is the convolution of its arguments, which it leaves unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_chain m ρ)
  have get : ∀ b : Ref sig .tc, ¬ (Proc.devRef (τ := τ) .tc b).isScoped → r.2.mem ((c.tc : Thread nD τ).loc b) = U9 m c b := fun b hb =>
    h.1 c (Proc.devRef .tc b) (Finset.mem_filter.mpr ⟨StableHlo.devRef_mem_tcRefs b, hb⟩)
  exact ⟨(get main_v8 (by decide)).trans (final m c),
    (get main_arg0 (by decide)).trans (U9_arg m c main_arg0 (by simp [args])),
    (get main_arg1 (by decide)).trans (U9_arg m c main_arg1 (by simp [args])),
    (get main_arg2 (by decide)).trans (U9_arg m c main_arg2 (by simp [args])),
    (get main_arg3 (by decide)).trans (U9_arg m c main_arg3 (by simp [args])),
    (get main_arg4 (by decide)).trans (U9_arg m c main_arg4 (by simp [args])),
    (get main_arg5 (by decide)).trans (U9_arg m c main_arg5 (by simp [args])),
    (get main_arg6 (by decide)).trans (U9_arg m c main_arg6 (by simp [args])),
    (get main_arg7 (by decide)).trans (U9_arg m c main_arg7 (by simp [args]))⟩

end Cert.Conv
-- ==== Proof.Ref.lean ====
module

public import proofs.«01_k».proof.Proof.Gen.ReferenceIdeal.Run
public import proofs.«01_k».proof.Proof.Gen.ReferenceIdeal.Read
public import proofs.«01_k».proof.Proof.Whole
public import Idealize.ShloMosaic.Lib.BitcastConvert
public import Idealize.ShloMosaic.Lib.ValueIdxRank6

@[expose] public section

set_option maxRecDepth 16384

noncomputable section

namespace Cert.Conv.Ref

open Cert.ReferenceIdeal Cert.ReferenceIdeal.Gen Idealize.ShloMosaic Idealize.ShloMosaic.ValueIdx Idealize.ShloMosaic.TcCoe
open Idealize.SL.Sem Idealize.ShloMosaic.StableHlo Cert.Conv

section
variable {F : FTy → Type} [FloatOps F]
variable (m : (ℓ : Loc nD τ sig) → Buf (Elt F) ℓ)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of a window's block is the same index of its array: the one point of this call stages every array whole. -/
theorem emb0 (t : Fin cfg0.N) (j : S8x131072x864.Idx) : ((cfg0.win 0).blk t).view.emb j = j := by
  obtain ⟨e0, e1, e2⟩ := idx0 t
  funext a; apply Fin.ext
  match a with
  | ⟨0, _⟩ => show win0_0.index t (0 : Fin 3) * 8 + 1 * (j 0).val = (j 0).val; omega
  | ⟨1, _⟩ => show win0_0.index t (1 : Fin 3) * 131072 + 1 * (j 1).val = (j 1).val; omega
  | ⟨2, _⟩ => show win0_0.index t (2 : Fin 3) * 864 + 1 * (j 2).val = (j 2).val; omega
theorem emb1 (t : Fin cfg0.N) (j : S27x32x64.Idx) : ((cfg0.win 1).blk t).view.emb j = j := by
  obtain ⟨e0, e1, e2⟩ := idx1 t
  funext a; apply Fin.ext
  match a with
  | ⟨0, _⟩ => show win0_1.index t (0 : Fin 3) * 27 + 1 * (j 0).val = (j 0).val; omega
  | ⟨1, _⟩ => show win0_1.index t (1 : Fin 3) * 32 + 1 * (j 1).val = (j 1).val; omega
  | ⟨2, _⟩ => show win0_1.index t (2 : Fin 3) * 64 + 1 * (j 2).val = (j 2).val; omega
theorem emb2 (t : Fin cfg0.N) (j : S8x131072x864.Idx) : ((cfg0.win 2).blk t).view.emb j = j := by
  obtain ⟨e0, e1, e2⟩ := idx2 t
  funext a; apply Fin.ext
  match a with
  | ⟨0, _⟩ => show win0_2.index t (0 : Fin 3) * 8 + 1 * (j 0).val = (j 0).val; omega
  | ⟨1, _⟩ => show win0_2.index t (1 : Fin 3) * 131072 + 1 * (j 1).val = (j 1).val; omega
  | ⟨2, _⟩ => show win0_2.index t (2 : Fin 3) * 864 + 1 * (j 2).val = (j 2).val; omega
theorem emb3 (t : Fin cfg0.N) (j : S27x32x64.Idx) : ((cfg0.win 3).blk t).view.emb j = j := by
  obtain ⟨e0, e1, e2⟩ := idx3 t
  funext a; apply Fin.ext
  match a with
  | ⟨0, _⟩ => show win0_3.index t (0 : Fin 3) * 27 + 1 * (j 0).val = (j 0).val; omega
  | ⟨1, _⟩ => show win0_3.index t (1 : Fin 3) * 32 + 1 * (j 1).val = (j 1).val; omega
  | ⟨2, _⟩ => show win0_3.index t (2 : Fin 3) * 64 + 1 * (j 2).val = (j 2).val; omega

theorem iblk0_eq (c : Dev nD) (t : Fin cfg0.N) : iblk m c 0 t = V m c main_v4 := by
  funext j; show V m c main_v4 (((cfg0.win 0).blk t).view.emb j) = V m c main_v4 j; rw [emb0]
theorem iblk1_eq (c : Dev nD) (t : Fin cfg0.N) : iblk m c 1 t = V m c main_arg5 := by
  funext j; show V m c main_arg5 (((cfg0.win 1).blk t).view.emb j) = V m c main_arg5 j; rw [emb1]

theorem covered2 (i : S8x131072x864.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩
theorem covered3 (i : S27x32x64.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

theorem hz3 : (![0, 0, 0] : Fin 3 → Nat) = fun _ => 0 := funext fun a => by fin_cases a <;> rfl

/-- The first decoded array: the bytes, widened. -/
theorem reg0_eq (c : Dev nD) : Value.reg_main_v5_0 m c = k0_pay1 (V m c main_v4) :=
  (dats m 0 c).arrAt_eq_of_cover 2 (k0_pay1 (V m c main_v4)) (fun t _ => by
    have e : (dats m 0 c).flushed 2 t = (cfg0.win 2).cut (grid0.coords t) ((dats m 0 c).after 2 t) := rfl
    rw [e, after0_2, iblk0_eq, iblk1_eq]
    unfold out0_2
    rw [View.canon_unit_zero hz3, View.ld_unit_zero hz3]
    funext j
    show _ = k0_pay1 (V m c main_v4) (((cfg0.win 2).blk t).view.emb j)
    rw [emb2]) covered2
/-- The second decoded array: the weight codes, widened. -/
theorem reg1_eq (c : Dev nD) : Value.reg_main_v5_1 m c = k0_pay2 (m ((c : Thread nD τ).loc main_arg5)) :=
  ((dats m 0 c).arrAt_eq_of_cover 3 (k0_pay2 (V m c main_arg5)) (fun t _ => by
    have e : (dats m 0 c).flushed 3 t = (cfg0.win 3).cut (grid0.coords t) ((dats m 0 c).after 3 t) := rfl
    rw [e, after0_3, iblk0_eq, iblk1_eq]
    unfold out0_3
    rw [View.canon_unit_zero hz3, View.ld_unit_zero hz3]
    funext j
    show _ = k0_pay2 (V m c main_arg5) (((cfg0.win 3).blk t).view.emb j)
    rw [emb3]) covered3).trans (by rw [V_main_arg5])

/-- The words of the eight scenes, joined. -/
abbrev joined (g : Fin 4 → IVec S2x1024x216x128 32) : IVec S8x1024x216x128 32 :=
  concatenate S8x1024x216x128 0 [⟨S2x1024x216x128, g 0⟩, ⟨S2x1024x216x128, g 1⟩, ⟨S2x1024x216x128, g 2⟩, ⟨S2x1024x216x128, g 3⟩] concatenates_S2x1024x216x128_S2x1024x216x128_S2x1024x216x128_S2x1024x216x128_S8x1024x216x128_d0

/-- The words' four pieces, as launched. -/
def pieces (m : (ℓ : Loc nD τ sig) → Buf (Elt F) ℓ) (c : Dev nD) : Fin 4 → IVec S2x1024x216x128 32 := fun k => match k with
  | 0 => m ((c : Thread nD τ).loc main_arg0) | 1 => m ((c : Thread nD τ).loc main_arg1)
  | 2 => m ((c : Thread nD τ).loc main_arg2) | 3 => m ((c : Thread nD τ).loc main_arg3)

/-- The bytes of the words in row order. -/
theorem V_rows (c : Dev nD) : V m c main_v4 = shapeCast S8x131072x864 (transpose S8x1024x128x27x8x4 [0, 1, 4, 2, 3, 5]
    (shapeCast S8x1024x27x8x128x4 (bitcastToFloat .fp8e4m3 (Host.bitcastConvertNarrow S8x1024x216x128x4 8
      (joined (pieces m c)) splits_S8x1024x216x128_w32_S8x1024x216x128x4_w8) : Vec F S8x1024x216x128x4 .fp8e4m3)
      shapeCasts_S8x1024x216x128x4_S8x1024x27x8x128x4) transposes_S8x1024x27x8x128x4_S8x1024x128x27x8x4_0_1_4_2_3_5)
      shapeCasts_S8x1024x128x27x8x4_S8x131072x864 := by
  show StableHlo.after _ _ (Proc.devRef .tc main_v4) = _
  simp only [hostOps0, List.flatten_cons, List.flatten_nil, List.append_nil, List.cons_append, List.nil_append]
  after_results <;> rfl

end

/-- The bytes in row order, one by one. -/
theorem rows_apply (g : IVec S8x1024x216x128 32) (b : Fin 8) (n : Fin 131072) (q : Fin 864) :
    shapeCast S8x131072x864 (transpose S8x1024x128x27x8x4 [0, 1, 4, 2, 3, 5]
    (shapeCast S8x1024x27x8x128x4 (bitcastToFloat (F := Ideal) .fp8e4m3 (Host.bitcastConvertNarrow S8x1024x216x128x4 8
      g splits_S8x1024x216x128_w32_S8x1024x216x128x4_w8) : Vec Ideal S8x1024x216x128x4 .fp8e4m3)
      shapeCasts_S8x1024x216x128x4_S8x1024x27x8x128x4) transposes_S8x1024x27x8x128x4_S8x1024x128x27x8x4_0_1_4_2_3_5)
      shapeCasts_S8x1024x128x27x8x4_S8x131072x864 (ix3 b n q)
    = chan (fun r => g (ix4 b (⟨n.val / 128, by omega⟩ : Fin 1024) r (⟨n.val % 128, by omega⟩ : Fin 128))) q := by
  rw [shapeCast_apply _ _ _ (ix6 b (⟨n.val / 128, by omega⟩ : Fin 1024) (⟨n.val % 128, by omega⟩ : Fin 128)
      (⟨q.val / 32, by omega⟩ : Fin 27) (⟨q.val % 32 / 4, by omega⟩ : Fin 8) (⟨q.val % 4, by omega⟩ : Fin 4))
      (by
        rw [Shape.rowMajor_val_three, Shape.rowMajor_val_six]
        show ((((b.val * 1024 + n.val / 128) * 128 + n.val % 128) * 27 + q.val / 32) * 8 + q.val % 32 / 4) * 4 + q.val % 4
          = (b.val * 131072 + n.val) * 864 + q.val
        omega),
    transpose_apply _ _ _ _ (ix6 b (⟨n.val / 128, by omega⟩ : Fin 1024) (⟨q.val / 32, by omega⟩ : Fin 27)
      (⟨q.val % 32 / 4, by omega⟩ : Fin 8) (⟨n.val % 128, by omega⟩ : Fin 128) (⟨q.val % 4, by omega⟩ : Fin 4))
      (fun a => match a with | ⟨0, _⟩ => rfl | ⟨1, _⟩ => rfl | ⟨2, _⟩ => rfl | ⟨3, _⟩ => rfl | ⟨4, _⟩ => rfl | ⟨5, _⟩ => rfl),
    shapeCast_apply _ _ _ (ix5 b (⟨n.val / 128, by omega⟩ : Fin 1024) (⟨q.val / 4, by omega⟩ : Fin 216)
      (⟨n.val % 128, by omega⟩ : Fin 128) (⟨q.val % 4, by omega⟩ : Fin 4))
      (by
        rw [Shape.rowMajor_val_five, Shape.rowMajor_val_six]
        show (((b.val * 1024 + n.val / 128) * 216 + q.val / 4) * 128 + n.val % 128) * 4 + q.val % 4
          = ((((b.val * 1024 + n.val / 128) * 27 + q.val / 32) * 8 + q.val % 32 / 4) * 128 + n.val % 128) * 4 + q.val % 4
        omega)]
  show Ideal.ofBits .fp8e4m3 (Host.bitcastConvertNarrow S8x1024x216x128x4 8 g _ _) = Ideal.ofBits .fp8e4m3 _
  rw [Host.bitcastConvertNarrow_apply]
  congr 1
  refine congrArg₂ (fun x p => BitVec.extractLsb' p 8 (g x)) ?_ (Nat.mul_comm _ _)
  funext a
  match a with | ⟨0, _⟩ => rfl | ⟨1, _⟩ => rfl | ⟨2, _⟩ => rfl | ⟨3, _⟩ => rfl

/-- The scaled weights, one by one. -/
theorem wts_apply (w : Vec Ideal S27x32x64 .fp8e4m3) (ws : Vec Ideal S27x64 .f32) (q : Fin 864) (o : Fin 64) :
    Read.val_main_v10 (F := Ideal) ws (k0_pay2 w) (ix2 q o) = wEff w ws q o := by
  rw [Read.val_main_v10_apply, Read.val_main_v9_apply, Read.val_main_v8_apply, Read.val_main_v7_apply, Read.val_main_v6_apply]
  have e0 : (q.val * 64 + o.val) / 2048 = q.val / 32 := by omega
  have e1 : (q.val * 64 + o.val) / 64 % 32 = q.val % 32 := by omega
  have e2 : (q.val * 64 + o.val) % 64 = o.val := by omega
  show w _ * ws _ = w _ * ws _
  refine congrArg₂ (· * ·) (congrArg w ?_) (congrArg ws ?_)
  · funext a
    match a with | ⟨0, _⟩ => exact Fin.ext e0 | ⟨1, _⟩ => exact Fin.ext e1 | ⟨2, _⟩ => exact Fin.ext e2
  · funext a
    match a with | ⟨0, _⟩ => exact Fin.ext e0 | ⟨1, _⟩ => exact Fin.ext e2

/-- A scene of the joined words is a scene of one of the pieces. -/
theorem joined_piece (g : Fin 4 → IVec S2x1024x216x128 32) (k : Fin 4) (z : Fin 2) (ch : Fin 1024) (r : Fin 216) (l : Fin 128) :
    joined g (ix4 (⟨2 * k.val + z.val, by omega⟩ : Fin 8) ch r l) = g k (ix4 z ch r l) := by
  unfold joined
  match k with
  | 0 => exact concatenate_apply_piece (t := S8x1024x216x128) 0 _ _ _ 0 (by simp) S2x1024x216x128 (g 0) rfl rfl 0 rfl _
          (fun b => match b with | ⟨0, _⟩ => fun h => absurd rfl h | ⟨1, _⟩ => fun _ => rfl | ⟨2, _⟩ => fun _ => rfl | ⟨3, _⟩ => fun _ => rfl) rfl
  | 1 => exact concatenate_apply_piece (t := S8x1024x216x128) 0 _ _ _ 1 (by simp) S2x1024x216x128 (g 1) rfl rfl 2 rfl _
          (fun b => match b with | ⟨0, _⟩ => fun h => absurd rfl h | ⟨1, _⟩ => fun _ => rfl | ⟨2, _⟩ => fun _ => rfl | ⟨3, _⟩ => fun _ => rfl) rfl
  | 2 => exact concatenate_apply_piece (t := S8x1024x216x128) 0 _ _ _ 2 (by simp) S2x1024x216x128 (g 2) rfl rfl 4 rfl _
          (fun b => match b with | ⟨0, _⟩ => fun h => absurd rfl h | ⟨1, _⟩ => fun _ => rfl | ⟨2, _⟩ => fun _ => rfl | ⟨3, _⟩ => fun _ => rfl) rfl
  | 3 => exact concatenate_apply_piece (t := S8x1024x216x128) 0 _ _ _ 3 (by simp) S2x1024x216x128 (g 3) rfl rfl 6 rfl _
          (fun b => match b with | ⟨0, _⟩ => fun h => absurd rfl h | ⟨1, _⟩ => fun _ => rfl | ⟨2, _⟩ => fun _ => rfl | ⟨3, _⟩ => fun _ => rfl) rfl
theorem joined_apply (g : Fin 4 → IVec S2x1024x216x128 32) (s : Fin 8) (ch : Fin 1024) (r : Fin 216) (l : Fin 128) :
    joined g (ix4 s ch r l) = g ⟨s.val / 2, by omega⟩ (ix4 (⟨s.val % 2, by omega⟩ : Fin 2) ch r l) :=
  (congrArg (fun x => joined g (ix4 x ch r l)) (Fin.ext (by show s.val = 2 * (s.val / 2) + s.val % 2; omega))).trans
    (joined_piece g ⟨s.val / 2, by omega⟩ ⟨s.val % 2, by omega⟩ ch r l)

/-- The product, scaled and shifted, one by one. -/
theorem acc_apply (g : IVec S8x1024x216x128 32) (xs : Vec Ideal S1 .f32) (w : Vec Ideal S27x32x64 .fp8e4m3) (ws : Vec Ideal S27x64 .f32)
    (bias : Vec Ideal S64 .f32) (rows : Vec Ideal S8x131072x864 .fp8e4m3)
    (hrows : ∀ b n q, rows (ix3 b n q) = chan (fun r => g (ix4 b (⟨n.val / 128, by omega⟩ : Fin 1024) r (⟨n.val % 128, by omega⟩ : Fin 128))) q)
    (b : Fin 8) (n : Fin 131072) (o : Fin 64) :
    Read.val_main_v17 (F := Ideal) xs ws bias (k0_pay1 rows) (k0_pay2 w) (ix3 b n o)
      = conv (B := 8) g (xs (ix1 0)) w ws (bias (ix1 o)) b n o := by
  rw [Read.val_main_v17_apply, Read.val_main_v14_apply, Read.val_main_v16_apply, Read.val_main_v15_apply, Read.val_main_v13_apply,
    Read.val_main_v11_apply]
  have ex : Read.val_main_v12 (F := Ideal) xs (Read.idx_main_v13 (ix3 b n o)) = xs (ix1 0) :=
    shapeCast_apply (s := S1) xs _ _ (ix1 0) rfl
  rw [ex]
  show (∑ q : Fin 864, _) * xs (ix1 0) + bias _ = _
  unfold conv affineDot
  refine congrArg₂ (· + ·) (congrArg (· * xs (ix1 0)) (Finset.sum_congr rfl fun q _ => ?_)) (congrArg bias ?_)
  · rw [mul_comm]
    refine congrArg₂ (· * ·) ?_ ?_
    · exact (congrArg _ (funext fun a => match a with | ⟨0, _⟩ => rfl | ⟨1, _⟩ => rfl)).trans (wts_apply w ws q o)
    · exact (shapeCast_apply rows _ _ (ix3 b n q) (congrArg (fun i => (S8x131072x864.rowMajor i).val)
        (funext fun a => match a with | ⟨0, _⟩ => rfl | ⟨1, _⟩ => rfl | ⟨2, _⟩ => rfl))).trans (hrows b n q)
  · funext a
    match a with | ⟨0, _⟩ => rfl

/-- The reference's result is the whole convolution of its arguments. -/
theorem value_eq (g : Fin 4 → IVec S2x1024x216x128 32) (xs : Vec Ideal S1 .f32) (w : Vec Ideal S27x32x64 .fp8e4m3) (ws : Vec Ideal S27x64 .f32)
    (bias : Vec Ideal S64 .f32) (rows : Vec Ideal S8x131072x864 .fp8e4m3)
    (hrows : ∀ b n q, rows (ix3 b n q) = chan (fun r => joined g (ix4 b (⟨n.val / 128, by omega⟩ : Fin 1024) r (⟨n.val % 128, by omega⟩ : Fin 128))) q) :
    Read.val_main_v17 (F := Ideal) xs ws bias (k0_pay1 rows) (k0_pay2 w) = whole g xs w ws bias := by
  funext i
  obtain ⟨s, n, o, rfl⟩ : ∃ (s : Fin 8) (n : Fin 131072) (o : Fin 64), i = ix3 s n o := ⟨i 0, i 1, i 2, eq_ix3 i⟩
  refine (acc_apply (joined g) xs w ws bias rows hrows s n o).trans ?_
  unfold whole conv
  exact congrArg (fun u => affineDot _ u _ _) (congrArg chan (funext fun r => joined_apply g s _ r _))

/-- The reference run: its result is the whole convolution of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = whole (pieces m c) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Value.run m ρ)
  rw [reg0_eq, reg1_eq, V_rows]
  exact value_eq _ _ _ _ _ _ (fun b n q => rows_apply _ b n q)

end Cert.Conv.Ref
-- ==== Proof.Transfer.lean ====
module

public import proofs.«01_k».proof.Defs
public import proofs.«01_k».proof.Proof.Gen.Kernel
public import proofs.«01_k».proof.Proof.Run

@[expose] public section

set_option maxRecDepth 16384
set_option maxHeartbeats 4000000

noncomputable section

namespace Cert.Conv

open Idealize.ShloMosaic Idealize.ShloMosaic.TcCoe
open Idealize.SL.Sem

section
variable {F : FTy → Type} [FloatOps F]

/-- The compiled program's bodies are the idealized program's: no operation was rewritten. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.Kernel.nD) (τ := Cert.Kernel.τ) (sig := Cert.Kernel.sig)) ?_
  funext l x
  match l, x with
  | 0, (t, s) => rfl
  | 1, (t, s) => rfl
  | 2, (t, s) => rfl
  | 3, (t, s) => rfl

/-- So are its body tables, -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

/-- and its @main. -/
theorem main_eq : @Cert.Kernel.main F _ = @Cert.KernelIdeal.main F _ := rfl

end

/-- So the compiled program runs as the idealized one does when both are read at the machine's floats: from every memory it ends, with its
    arguments unchanged and every semaphore at zero. -/
theorem frame_kernel : Cert.quiescent_Kernel (hKernel := Cert.Kernel.Gen.facts) := fun m ρ _ => by
  have h := Cert.Conv.frame (F := Bits) m ρ
  rw [← defs_eq, ← main_eq] at h
  exact h

end Cert.Conv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Chain
public import proofs.«01_k».proof.Proof.Ref
public import proofs.«01_k».proof.Proof.Transfer
public import Idealize.ShloMosaic.Adequacy
public import Idealize.ShloMosaic.Init

@[expose] public section

noncomputable section

namespace Cert.Proof

open Idealize.ShloMosaic Idealize.SL.Sem Cert.Kernel

/-- From memories agreeing on the arguments, kernel and reference end with the same result: the whole convolution of the arguments. -/
theorem algebraic : Cert.algebraic_KernelIdeal_ReferenceIdeal := by
  intro m g m' g' _ hargs
  refine ⟨fun c => Cert.Conv.goal m c, Cert.Conv.run_value m g, ?_⟩
  refine (θ_run Cert.ReferenceIdeal.defs _ _).mono (fun r h c => ⟨(h c).1.trans ?_, (h c).2⟩) (Cert.Conv.Ref.run m' g')
  obtain ⟨h0, h1, h2, h3, h4, h5, h6, h7⟩ := hargs c
  have hp : Cert.Conv.Ref.pieces m' c = Cert.Conv.words m c := funext fun k => match k with
    | 0 => h0 | 1 => h1 | 2 => h2 | 3 => h3
  rw [hp, h4, h5, h6, h7]
  rfl

theorem claim : Cert.Claim := ⟨Cert.Kernel.Gen.facts, Cert.KernelIdeal.Gen.facts, Cert.ReferenceIdeal.Gen.facts,
  Cert.Conv.frame_kernel, fun m ρ _ => Cert.Conv.frame m ρ, fun m ρ _ => Cert.ReferenceIdeal.Gen.frame m ρ,
  trivial, algebraic⟩

end Cert.Proof

end
